-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v174)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v174) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S10000x128 : Shape := ⟨2, ![10000, 128]⟩
abbrev S10000x3 : Shape := ⟨2, ![10000, 3]⟩
abbrev S10000x16 : Shape := ⟨2, ![10000, 16]⟩
abbrev S128x128 : Shape := ⟨2, ![128, 128]⟩
abbrev S128 : Shape := ⟨1, ![128]⟩
abbrev S3x128 : Shape := ⟨2, ![3, 128]⟩
abbrev S128x8 : Shape := ⟨2, ![128, 8]⟩
abbrev S8 : Shape := ⟨1, ![8]⟩
abbrev S8x8 : Shape := ⟨2, ![8, 8]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S10000x3 : S_.BroadcastsInDim S10000x3 (![] : Fin 0 → Fin S10000x3.rank)
  reducesTo_S10000x3_S_d0_1 : S10000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_

variable [Facts]

def fn_part7 {F : FTy → Type} [FloatOps F] (main_arg24 : FVec F S8 .f32) (main_v115 : IVec S_ 1) (main_v118 : IVec S8x8 1) (main_c_46 : IVec S_ 1) : IVec S_ 1 :=
  let main_v119 : IVec S_ 1 := (fun x v => Host.reduce IntOp.andi x v reducesTo_S8x8_S_d0_1 h_S_) main_v118 main_c_46
  let main_v120 : IVec S_ 1 := andi main_v115 main_v119
  let main_v121 : FVec F S8 .f32 := Host.absf main_arg24
  let main_cst_47 : FVec F S_ .f32 := constant S_ .f32 0x7F800000#32
  let main_v122 : FVec F S8 .f32 := broadcastInDim S8 ![] bcast_S_S8 main_cst_47
  let main_v123 : IVec S8 1 := cmpf .olt main_v121 main_v122
  let main_c_48 : IVec S_ 1 := constantI S_ 1 1#1
  let main_v124 : IVec S_ 1 := (fun x v => Host.reduce IntOp.andi x v reducesTo_S8_S_d0 h_S_) main_v123 main_c_48
  let main_v125 : IVec S_ 1 := andi main_v120 main_v124
  main_v125

def fn_part6 {F : FTy → Type} [FloatOps F] (main_arg21 : FVec F S8 .f32) (main_arg22 : FVec F S8 .f32) (main_arg23 : FVec F S8x8 .f32) (main_arg24 : FVec F S8 .f32) (main_v100 : IVec S_ 1) (main_v101 : FVec F S8 .f32) (main_cst_39 : FVec F S_ .f32) : IVec S_ 1 :=
  let main_v102 : FVec F S8 .f32 := broadcastInDim S8 ![] bcast_S_S8 main_cst_39
  let main_v103 : IVec S8 1 := cmpf .olt main_v101 main_v102
  let main_c_40 : IVec S_ 1 := constantI S_ 1 1#1
  let main_v104 : IVec S_ 1 := (fun x v => Host.reduce IntOp.andi x v reducesTo_S8_S_d0 h_S_) main_v103 main_c_40
  let main_v105 : IVec S_ 1 := andi main_v100 main_v104
  let main_v106 : FVec F S8 .f32 := Host.absf main_arg21
  let main_cst_41 : FVec F S_ .f32 := constant S_ .f32 0x7F800000#32
  let main_v107 : FVec F S8 .f32 := broadcastInDim S8 ![] bcast_S_S8 main_cst_41
  let main_v108 : IVec S8 1 := cmpf .olt main_v106 main_v107
  let main_c_42 : IVec S_ 1 := constantI S_ 1 1#1
  let main_v109 : IVec S_ 1 := (fun x v => Host.reduce IntOp.andi x v reducesTo_S8_S_d0 h_S_) main_v108 main_c_42
  let main_v110 : IVec S_ 1 := andi main_v105 main_v109
  let main_v111 : FVec F S8 .f32 := Host.absf main_arg22
  let main_cst_43 : FVec F S_ .f32 := constant S_ .f32 0x7F800000#32
  let main_v112 : FVec F S8 .f32 := broadcastInDim S8 ![] bcast_S_S8 main_cst_43
  let main_v113 : IVec S8 1 := cmpf .olt main_v111 main_v112
  let main_c_44 : IVec S_ 1 := constantI S_ 1 1#1
  let main_v114 : IVec S_ 1 := (fun x v => Host.reduce IntOp.andi x v reducesTo_S8_S_d0 h_S_) main_v113 main_c_44
  let main_v115 : IVec S_ 1 := andi main_v110 main_v114
  let main_v116 : FVec F S8x8 .f32 := Host.absf main_arg23
  let main_cst_45 : FVec F S_ .f32 := constant S_ .f32 0x7F800000#32
  let main_v117 : FVec F S8x8 .f32 := broadcastInDim S8x8 ![] bcast_S_S8x8 main_cst_45
  let main_v118 : IVec S8x8 1 := cmpf .olt main_v116 main_v117
  let main_c_46 : IVec S_ 1 := constantI S_ 1 1#1
  fn_part7 (F := F) main_arg24 main_v115 main_v118 main_c_46

def fn_part5 {F : FTy → Type} [FloatOps F] (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) (main_v80 : IVec S_ 1) (main_v84 : IVec S_ 1) : IVec S_ 1 :=
  let main_v85 : IVec S_ 1 := andi main_v80 main_v84
  let main_v86 : FVec F S128x128 .f32 := Host.absf main_arg17
  let main_cst_33 : FVec F S_ .f32 := constant S_ .f32 0x7F800000#32
  let main_v87 : FVec F S128x128 .f32 := broadcastInDim S128x128 ![] bcast_S_S128x128 main_cst_33
  let main_v88 : IVec S128x128 1 := cmpf .olt main_v86 main_v87
  let main_c_34 : IVec S_ 1 := constantI S_ 1 1#1
  let main_v89 : IVec S_ 1 := (fun x v => Host.reduce IntOp.andi x v reducesTo_S128x128_S_d0_1 h_S_) main_v88 main_c_34
  let main_v90 : IVec S_ 1 := andi main_v85 main_v89
  let main_v91 : FVec F S128 .f32 := Host.absf main_arg18
  let main_cst_35 : FVec F S_ .f32 := constant S_ .f32 0x7F800000#32
  let main_v92 : FVec F S128 .f32 := broadcastInDim S128 ![] bcast_S_S128 main_cst_35
  let main_v93 : IVec S128 1 := cmpf .olt main_v91 main_v92
  let main_c_36 : IVec S_ 1 := constantI S_ 1 1#1
  let main_v94 : IVec S_ 1 := (fun x v => Host.reduce IntOp.andi x v reducesTo_S128_S_d0 h_S_) main_v93 main_c_36
  let main_v95 : IVec S_ 1 := andi main_v90 main_v94
  let main_v96 : FVec F S128x8 .f32 := Host.absf main_arg19
  let main_cst_37 : FVec F S_ .f32 := constant S_ .f32 0x7F800000#32
  let main_v97 : FVec F S128x8 .f32 := broadcastInDim S128x8 ![] bcast_S_S128x8 main_cst_37
  let main_v98 : IVec S128x8 1 := cmpf .olt main_v96 main_v97
  let main_c_38 : IVec S_ 1 := constantI S_ 1 1#1
  let main_v99 : IVec S_ 1 := (fun x v => Host.reduce IntOp.andi x v reducesTo_S128x8_S_d0_1 h_S_) main_v98 main_c_38
  let main_v100 : IVec S_ 1 := andi main_v95 main_v99
  let main_v101 : FVec F S8 .f32 := Host.absf main_arg20
  let main_cst_39 : FVec F S_ .f32 := constant S_ .f32 0x7F800000#32
  fn_part6 (F := F) main_arg21 main_arg22 main_arg23 main_arg24 main_v100 main_v101 main_cst_39

def fn_part4 {F : FTy → Type} [FloatOps F] (main_arg14 : FVec F S128 .f32) (main_arg15 : FVec F S128 .f32) (main_arg16 : FVec F S128 .f32) (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) (main_v65 : IVec S_ 1) (main_v66 : FVec F S3x128 .f32) (main_v67 : FVec F S3x128 .f32) : IVec S_ 1 :=
  let main_v68 : IVec S3x128 1 := cmpf .olt main_v66 main_v67
  let main_c_26 : IVec S_ 1 := constantI S_ 1 1#1
  let main_v69 : IVec S_ 1 := (fun x v => Host.reduce IntOp.andi x v reducesTo_S3x128_S_d0_1 h_S_) main_v68 main_c_26
  let main_v70 : IVec S_ 1 := andi main_v65 main_v69
  let main_v71 : FVec F S128 .f32 := Host.absf main_arg14
  let main_cst_27 : FVec F S_ .f32 := constant S_ .f32 0x7F800000#32
  let main_v72 : FVec F S128 .f32 := broadcastInDim S128 ![] bcast_S_S128 main_cst_27
  let main_v73 : IVec S128 1 := cmpf .olt main_v71 main_v72
  let main_c_28 : IVec S_ 1 := constantI S_ 1 1#1
  let main_v74 : IVec S_ 1 := (fun x v => Host.reduce IntOp.andi x v reducesTo_S128_S_d0 h_S_) main_v73 main_c_28
  let main_v75 : IVec S_ 1 := andi main_v70 main_v74
  let main_v76 : FVec F S128 .f32 := Host.absf main_arg15
  let main_cst_29 : FVec F S_ .f32 := constant S_ .f32 0x7F800000#32
  let main_v77 : FVec F S128 .f32 := broadcastInDim S128 ![] bcast_S_S128 main_cst_29
  let main_v78 : IVec S128 1 := cmpf .olt main_v76 main_v77
  let main_c_30 : IVec S_ 1 := constantI S_ 1 1#1
  let main_v79 : IVec S_ 1 := (fun x v => Host.reduce IntOp.andi x v reducesTo_S128_S_d0 h_S_) main_v78 main_c_30
  let main_v80 : IVec S_ 1 := andi main_v75 main_v79
  let main_v81 : FVec F S128 .f32 := Host.absf main_arg16
  let main_cst_31 : FVec F S_ .f32 := constant S_ .f32 0x7F800000#32
  let main_v82 : FVec F S128 .f32 := broadcastInDim S128 ![] bcast_S_S128 main_cst_31
  let main_v83 : IVec S128 1 := cmpf .olt main_v81 main_v82
  let main_c_32 : IVec S_ 1 := constantI S_ 1 1#1
  let main_v84 : IVec S_ 1 := (fun x v => Host.reduce IntOp.andi x v reducesTo_S128_S_d0 h_S_) main_v83 main_c_32
  fn_part5 (F := F) main_arg17 main_arg18 main_arg19 main_arg20 main_arg21 main_arg22 main_arg23 main_arg24 main_v80 main_v84

def fn_part3 {F : FTy → Type} [FloatOps F] (main_arg10 : FVec F S128 .f32) (main_arg11 : FVec F S128x128 .f32) (main_arg12 : FVec F S128 .f32) (main_arg13 : FVec F S3x128 .f32) (main_arg14 : FVec F S128 .f32) (main_arg15 : FVec F S128 .f32) (main_arg16 : FVec F S128 .f32) (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) (main_v50 : IVec S_ 1) : IVec S_ 1 :=
  let main_v51 : FVec F S128 .f32 := Host.absf main_arg10
  let main_cst_19 : FVec F S_ .f32 := constant S_ .f32 0x7F800000#32
  let main_v52 : FVec F S128 .f32 := broadcastInDim S128 ![] bcast_S_S128 main_cst_19
  let main_v53 : IVec S128 1 := cmpf .olt main_v51 main_v52
  let main_c_20 : IVec S_ 1 := constantI S_ 1 1#1
  let main_v54 : IVec S_ 1 := (fun x v => Host.reduce IntOp.andi x v reducesTo_S128_S_d0 h_S_) main_v53 main_c_20
  let main_v55 : IVec S_ 1 := andi main_v50 main_v54
  let main_v56 : FVec F S128x128 .f32 := Host.absf main_arg11
  let main_cst_21 : FVec F S_ .f32 := constant S_ .f32 0x7F800000#32
  let main_v57 : FVec F S128x128 .f32 := broadcastInDim S128x128 ![] bcast_S_S128x128 main_cst_21
  let main_v58 : IVec S128x128 1 := cmpf .olt main_v56 main_v57
  let main_c_22 : IVec S_ 1 := constantI S_ 1 1#1
  let main_v59 : IVec S_ 1 := (fun x v => Host.reduce IntOp.andi x v reducesTo_S128x128_S_d0_1 h_S_) main_v58 main_c_22
  let main_v60 : IVec S_ 1 := andi main_v55 main_v59
  let main_v61 : FVec F S128 .f32 := Host.absf main_arg12
  let main_cst_23 : FVec F S_ .f32 := constant S_ .f32 0x7F800000#32
  let main_v62 : FVec F S128 .f32 := broadcastInDim S128 ![] bcast_S_S128 main_cst_23
  let main_v63 : IVec S128 1 := cmpf .olt main_v61 main_v62
  let main_c_24 : IVec S_ 1 := constantI S_ 1 1#1
  let main_v64 : IVec S_ 1 := (fun x v => Host.reduce IntOp.andi x v reducesTo_S128_S_d0 h_S_) main_v63 main_c_24
  let main_v65 : IVec S_ 1 := andi main_v60 main_v64
  let main_v66 : FVec F S3x128 .f32 := Host.absf main_arg13
  let main_cst_25 : FVec F S_ .f32 := constant S_ .f32 0x7F800000#32
  let main_v67 : FVec F S3x128 .f32 := broadcastInDim S3x128 ![] bcast_S_S3x128 main_cst_25
  fn_part4 (F := F) main_arg14 main_arg15 main_arg16 main_arg17 main_arg18 main_arg19 main_arg20 main_arg21 main_arg22 main_arg23 main_arg24 main_v65 main_v66 main_v67

def fn_part2 {F : FTy → Type} [FloatOps F] (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S3x128 .f32) (main_arg14 : FVec F S128 .f32) (main_arg15 : FVec F S128 .f32) (main_arg16 : FVec F S128 .f32) (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x128 .f32 := Host.absf main_arg7
  let main_cst_13 : FVec F S_ .f32 := constant S_ .f32 0x7F800000#32
  let main_v37 : FVec F S128x128 .f32 := broadcastInDim S128x128 ![] bcast_S_S128x128 main_cst_13
  let main_v38 : IVec S128x128 1 := cmpf .olt main_v36 main_v37
  let main_c_14 : IVec S_ 1 := constantI S_ 1 1#1
  let main_v39 : IVec S_ 1 := (fun x v => Host.reduce IntOp.andi x v reducesTo_S128x128_S_d0_1 h_S_) main_v38 main_c_14
  let main_v40 : IVec S_ 1 := andi main_v35 main_v39
  let main_v41 : FVec F S128 .f32 := Host.absf main_arg8
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128 .f32 := Host.absf main_arg9
  let main_cst_17 : FVec F S_ .f32 := constant S_ .f32 0x7F800000#32
  let main_v47 : FVec F S128 .f32 := broadcastInDim S128 ![] bcast_S_S128 main_cst_17
  let main_v48 : IVec S128 1 := cmpf .olt main_v46 main_v47
  let main_c_18 : IVec S_ 1 := constantI S_ 1 1#1
  let main_v49 : IVec S_ 1 := (fun x v => Host.reduce IntOp.andi x v reducesTo_S128_S_d0 h_S_) main_v48 main_c_18
  let main_v50 : IVec S_ 1 := andi main_v45 main_v49
  fn_part3 (F := F) main_arg10 main_arg11 main_arg12 main_arg13 main_arg14 main_arg15 main_arg16 main_arg17 main_arg18 main_arg19 main_arg20 main_arg21 main_arg22 main_arg23 main_arg24 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S3x128 .f32) (main_arg14 : FVec F S128 .f32) (main_arg15 : FVec F S128 .f32) (main_arg16 : FVec F S128 .f32) (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) (main_v15 : IVec S_ 1) (main_v16 : FVec F S128x128 .f32) : IVec S_ 1 :=
  let main_cst_5 : FVec F S_ .f32 := constant S_ .f32 0x7F800000#32
  let main_v17 : FVec F S128x128 .f32 := broadcastInDim S128x128 ![] bcast_S_S128x128 main_cst_5
  let main_v18 : IVec S128x128 1 := cmpf .olt main_v16 main_v17
  let main_c_6 : IVec S_ 1 := constantI S_ 1 1#1
  let main_v19 : IVec S_ 1 := (fun x v => Host.reduce IntOp.andi x v reducesTo_S128x128_S_d0_1 h_S_) main_v18 main_c_6
  let main_v20 : IVec S_ 1 := andi main_v15 main_v19
  let main_v21 : FVec F S128 .f32 := Host.absf main_arg4
  let main_cst_7 : FVec F S_ .f32 := constant S_ .f32 0x7F800000#32
  let main_v22 : FVec F S128 .f32 := broadcastInDim S128 ![] bcast_S_S128 main_cst_7
  let main_v23 : IVec S128 1 := cmpf .olt main_v21 main_v22
  let main_c_8 : IVec S_ 1 := constantI S_ 1 1#1
  let main_v24 : IVec S_ 1 := (fun x v => Host.reduce IntOp.andi x v reducesTo_S128_S_d0 h_S_) main_v23 main_c_8
  let main_v25 : IVec S_ 1 := andi main_v20 main_v24
  let main_v26 : FVec F S128 .f32 := Host.absf main_arg5
  let main_cst_9 : FVec F S_ .f32 := constant S_ .f32 0x7F800000#32
  let main_v27 : FVec F S128 .f32 := broadcastInDim S128 ![] bcast_S_S128 main_cst_9
  let main_v28 : IVec S128 1 := cmpf .olt main_v26 main_v27
  let main_c_10 : IVec S_ 1 := constantI S_ 1 1#1
  let main_v29 : IVec S_ 1 := (fun x v => Host.reduce IntOp.andi x v reducesTo_S128_S_d0 h_S_) main_v28 main_c_10
  let main_v30 : IVec S_ 1 := andi main_v25 main_v29
  let main_v31 : FVec F S128 .f32 := Host.absf main_arg6
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v30 main_v33

def fn {F : FTy → Type} [FloatOps F] (main_arg0 : FVec F S10000x128 .f32) (main_arg1 : FVec F S10000x3 .f32) (main_arg2 : IVec S10000x16 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S3x128 .f32) (main_arg14 : FVec F S128 .f32) (main_arg15 : FVec F S128 .f32) (main_arg16 : FVec F S128 .f32) (main_arg17 : FVec F S128x128 .f32) (main_arg18 : FVec F S128 .f32) (main_arg19 : FVec F S128x8 .f32) (main_arg20 : FVec F S8 .f32) (main_arg21 : FVec F S8 .f32) (main_arg22 : FVec F S8 .f32) (main_arg23 : FVec F S8x8 .f32) (main_arg24 : FVec F S8 .f32) : IVec S_ 1 :=
  let main_c : IVec S_ 32 := constantI S_ 32 0#32
  let main_v0 : IVec S10000x16 32 := broadcastInDim S10000x16 ![] bcast_S_S10000x16 main_c
  let main_v1 : IVec S10000x16 1 := cmpi .sge main_arg2 main_v0
  let main_c_0 : IVec S_ 32 := constantI S_ 32 10000#32
  let main_v2 : IVec S10000x16 32 := broadcastInDim S10000x16 ![] bcast_S_S10000x16 main_c_0
  let main_v3 : IVec S10000x16 1 := cmpi .slt main_arg2 main_v2
  let main_v4 : IVec S10000x16 1 := andi main_v1 main_v3
  let main_c_1 : IVec S_ 1 := constantI S_ 1 1#1
  let main_v5 : IVec S_ 1 := (fun x v => Host.reduce IntOp.andi x v reducesTo_S10000x16_S_d0_1 h_S_) main_v4 main_c_1
  let main_v6 : FVec F S10000x128 .f32 := Host.absf main_arg0
  let main_cst : FVec F S_ .f32 := constant S_ .f32 0x7F800000#32
  let main_v7 : FVec F S10000x128 .f32 := broadcastInDim S10000x128 ![] bcast_S_S10000x128 main_cst
  let main_v8 : IVec S10000x128 1 := cmpf .olt main_v6 main_v7
  let main_c_2 : IVec S_ 1 := constantI S_ 1 1#1
  let main_v9 : IVec S_ 1 := (fun x v => Host.reduce IntOp.andi x v reducesTo_S10000x128_S_d0_1 h_S_) main_v8 main_c_2
  let main_v10 : IVec S_ 1 := andi main_v5 main_v9
  let main_v11 : FVec F S10000x3 .f32 := Host.absf main_arg1
  let main_cst_3 : FVec F S_ .f32 := constant S_ .f32 0x7F800000#32
  let main_v12 : FVec F S10000x3 .f32 := broadcastInDim S10000x3 ![] bcast_S_S10000x3 main_cst_3
  let main_v13 : IVec S10000x3 1 := cmpf .olt main_v11 main_v12
  let main_c_4 : IVec S_ 1 := constantI S_ 1 1#1
  let main_v14 : IVec S_ 1 := (fun x v => Host.reduce IntOp.andi x v reducesTo_S10000x3_S_d0_1 h_S_) main_v13 main_c_4
  let main_v15 : IVec S_ 1 := andi main_v10 main_v14
  let main_v16 : FVec F S128x128 .f32 := Host.absf main_arg3
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v15 main_v16
-- ==== Kernel.lean ====
abbrev S10000x128 : Shape := ⟨2, ![10000, 128]⟩
abbrev S10000x3 : Shape := ⟨2, ![10000, 3]⟩
abbrev S10000x16 : Shape := ⟨2, ![10000, 16]⟩
abbrev S128x128 : Shape := ⟨2, ![128, 128]⟩
abbrev S128 : Shape := ⟨1, ![128]⟩
abbrev S3x128 : Shape := ⟨2, ![3, 128]⟩
abbrev S128x8 : Shape := ⟨2, ![128, 8]⟩
abbrev S8 : Shape := ⟨1, ![8]⟩
abbrev S8x8 : Shape := ⟨2, ![8, 8]⟩
abbrev S_ : Shape := ⟨0, ![]⟩
abbrev S10240x128 : Shape := ⟨2, ![10240, 128]⟩
abbrev S1x3 : Shape := ⟨2, ![1, 3]⟩
abbrev S3 : Shape := ⟨1, ![3]⟩
abbrev S240x3 : Shape := ⟨2, ![240, 3]⟩
abbrev S10240x3 : Shape := ⟨2, ![10240, 3]⟩
abbrev S10240x16 : Shape := ⟨2, ![10240, 16]⟩
abbrev S1x128 : Shape := ⟨2, ![1, 128]⟩
abbrev S1024x128 : Shape := ⟨2, ![1024, 128]⟩
abbrev S10240x8 : Shape := ⟨2, ![10240, 8]⟩
abbrev S512x128 : Shape := ⟨2, ![512, 128]⟩
abbrev S512x8 : Shape := ⟨2, ![512, 8]⟩
abbrev S10240x16x1 : Shape := ⟨3, ![10240, 16, 1]⟩
abbrev S10240x16x3 : Shape := ⟨3, ![10240, 16, 3]⟩
abbrev S10240x1x3 : Shape := ⟨3, ![10240, 1, 3]⟩
abbrev S10240x16x8 : Shape := ⟨3, ![10240, 16, 8]⟩
abbrev S3x3 : Shape := ⟨2, ![3, 3]⟩
abbrev S1x8 : Shape := ⟨2, ![1, 8]⟩
abbrev S512x16 : Shape := ⟨2, ![512, 16]⟩
abbrev S512x16x8 : Shape := ⟨3, ![512, 16, 8]⟩
abbrev S512x16x1 : Shape := ⟨3, ![512, 16, 1]⟩
abbrev S1x1x128 : Shape := ⟨3, ![1, 1, 128]⟩
abbrev S512x16x128 : Shape := ⟨3, ![512, 16, 128]⟩
abbrev S512x1x8 : Shape := ⟨3, ![512, 1, 8]⟩
abbrev S1x1x8 : Shape := ⟨3, ![1, 1, 8]⟩
abbrev S512x1x1 : Shape := ⟨3, ![512, 1, 1]⟩
abbrev S128x16 : Shape := ⟨2, ![128, 16]⟩
abbrev S512 : Shape := ⟨1, ![512]⟩
abbrev S512x1 : Shape := ⟨2, ![512, 1]⟩
abbrev S1x16 : Shape := ⟨2, ![1, 16]⟩
abbrev S10240x16x128 : Shape := ⟨3, ![10240, 16, 128]⟩
abbrev S10240x16x8x16 : Shape := ⟨4, ![10240, 16, 8, 16]⟩
abbrev S10240x8x16 : Shape := ⟨3, ![10240, 8, 16]⟩

abbrev nBuf : Space → Nat
  | .hbm => 237
  | .vmem => 61
  | .smem => 0
  | _ => 0

abbrev hbmTy0_0 (i : Nat) : BufTy := match i % 128 with
  | 0 => ⟨S10000x128, .f32⟩
  | 1 => ⟨S10000x3, .f32⟩
  | 2 => ⟨S10000x16, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S3x128, .f32⟩
  | 14 => ⟨S128, .f32⟩
  | 15 => ⟨S128, .f32⟩
  | 16 => ⟨S128, .f32⟩
  | 17 => ⟨S128x128, .f32⟩
  | 18 => ⟨S128, .f32⟩
  | 19 => ⟨S128x8, .f32⟩
  | 20 => ⟨S8, .f32⟩
  | 21 => ⟨S8, .f32⟩
  | 22 => ⟨S8, .f32⟩
  | 23 => ⟨S8x8, .f32⟩
  | 24 => ⟨S8, .f32⟩
  | 25 => ⟨S_, .i32⟩
  | 26 => ⟨S_, .f32⟩
  | 27 => ⟨S10240x128, .f32⟩
  | 28 => ⟨S1x3, .f32⟩
  | 29 => ⟨S3, .f32⟩
  | 30 => ⟨S240x3, .f32⟩
  | 31 => ⟨S10240x3, .f32⟩
  | 32 => ⟨S_, .i32⟩
  | 33 => ⟨S_, .i32⟩
  | 34 => ⟨S10240x16, .i32⟩
  | 35 => ⟨S128x128, .f32⟩
  | 36 => ⟨S1x128, .f32⟩
  | 37 => ⟨S128, .f32⟩
  | 38 => ⟨S128, .f32⟩
  | 39 => ⟨S_, .f32⟩
  | 40 => ⟨S128, .f32⟩
  | 41 => ⟨S128, .f32⟩
  | 42 => ⟨S128, .f32⟩
  | 43 => ⟨S_, .f32⟩
  | 44 => ⟨S128, .f32⟩
  | 45 => ⟨S128, .f32⟩
  | 46 => ⟨S128x128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S_, .f32⟩
  | 64 => ⟨S128, .f32⟩
  | 65 => ⟨S128, .f32⟩
  | 66 => ⟨S128, .f32⟩
  | 67 => ⟨S128, .f32⟩
  | 68 => ⟨S128, .f32⟩
  | 69 => ⟨S128, .f32⟩
  | 70 => ⟨S1x128, .f32⟩
  | 71 => ⟨S128x128, .f32⟩
  | 72 => ⟨S128x128, .f32⟩
  | 73 => ⟨S128, .f32⟩
  | 74 => ⟨S128, .f32⟩
  | 75 => ⟨S1x128, .f32⟩
  | 76 => ⟨S128, .f32⟩
  | 77 => ⟨S_, .f32⟩
  | 78 => ⟨S128, .f32⟩
  | 79 => ⟨S128, .f32⟩
  | 80 => ⟨S128, .f32⟩
  | 81 => ⟨S_, .f32⟩
  | 82 => ⟨S128, .f32⟩
  | 83 => ⟨S128, .f32⟩
  | 84 => ⟨S128x128, .f32⟩
  | 85 => ⟨S128, .f32⟩
  | 86 => ⟨S_, .f32⟩
  | 87 => ⟨S128, .f32⟩
  | 88 => ⟨S128, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S_, .f32⟩
  | 102 => ⟨S128, .f32⟩
  | 103 => ⟨S128, .f32⟩
  | 104 => ⟨S128, .f32⟩
  | 105 => ⟨S128, .f32⟩
  | 106 => ⟨S128, .f32⟩
  | 107 => ⟨S128, .f32⟩
  | 108 => ⟨S1x128, .f32⟩
  | 109 => ⟨S128x128, .f32⟩
  | 110 => ⟨S128x128, .f32⟩
  | 111 => ⟨S128, .f32⟩
  | 112 => ⟨S128, .f32⟩
  | 113 => ⟨S1x128, .f32⟩
  | 114 => ⟨S1x128, .f32⟩
  | 115 => ⟨S10240x128, .f32⟩
  | 116 => ⟨S10240x8, .f32⟩
  | 117 => ⟨S10240x8, .f32⟩
  | 118 => ⟨S_, .i32⟩
  | 119 => ⟨S10240x16, .i32⟩
  | 120 => ⟨S10240x16, .i1⟩
  | 121 => ⟨S_, .i32⟩
  | 122 => ⟨S10240x16, .i32⟩
  | 123 => ⟨S10240x16, .i32⟩
  | 124 => ⟨S10240x16, .i32⟩
  | 125 => ⟨S10240x16x1, .i32⟩
  | 126 => ⟨S10240x16x3, .f32⟩
  | 127 => ⟨S10240x1x3, .f32⟩
  | _ => ⟨S10000x128, .f32⟩

abbrev hbmTy0_1 (i : Nat) : BufTy := match i % 128 with
  | 0 => ⟨S10240x16x3, .f32⟩
  | 1 => ⟨S10240x16x3, .f32⟩
  | 2 => ⟨S10240x16x1, .f32⟩
  | 3 => ⟨S10240x16, .f32⟩
  | 4 => ⟨S10240x16x1, .f32⟩
  | 5 => ⟨S10240x16, .f32⟩
  | 6 => ⟨S10240x16x1, .f32⟩
  | 7 => ⟨S10240x16, .f32⟩
  | 8 => ⟨S_, .i32⟩
  | 9 => ⟨S10240x16, .i32⟩
  | 10 => ⟨S10240x16, .i1⟩
  | 11 => ⟨S_, .i32⟩
  | 12 => ⟨S10240x16, .i32⟩
  | 13 => ⟨S10240x16, .i32⟩
  | 14 => ⟨S10240x16, .i32⟩
  | 15 => ⟨S10240x16x1, .i32⟩
  | 16 => ⟨S10240x16x8, .f32⟩
  | 17 => ⟨S_, .f32⟩
  | 18 => ⟨S3, .f32⟩
  | 19 => ⟨S3x3, .f32⟩
  | 20 => ⟨S128, .f32⟩
  | 21 => ⟨S_, .f32⟩
  | 22 => ⟨S128, .f32⟩
  | 23 => ⟨S128, .f32⟩
  | 24 => ⟨S128, .f32⟩
  | 25 => ⟨S3x128, .f32⟩
  | 26 => ⟨S128, .f32⟩
  | 27 => ⟨S_, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S128, .f32⟩
  | 39 => ⟨S128, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S128, .f32⟩
  | 47 => ⟨S1x128, .f32⟩
  | 48 => ⟨S3x128, .f32⟩
  | 49 => ⟨S3x128, .f32⟩
  | 50 => ⟨S128, .f32⟩
  | 51 => ⟨S128, .f32⟩
  | 52 => ⟨S128, .f32⟩
  | 53 => ⟨S128, .f32⟩
  | 54 => ⟨S1x128, .f32⟩
  | 55 => ⟨S128, .f32⟩
  | 56 => ⟨S1x128, .f32⟩
  | 57 => ⟨S1x128, .f32⟩
  | 58 => ⟨S128, .f32⟩
  | 59 => ⟨S1x128, .f32⟩
  | 60 => ⟨S1x128, .f32⟩
  | 61 => ⟨S128, .f32⟩
  | 62 => ⟨S1x128, .f32⟩
  | 63 => ⟨S128x8, .f32⟩
  | 64 => ⟨S8, .f32⟩
  | 65 => ⟨S8, .f32⟩
  | 66 => ⟨S1x8, .f32⟩
  | 67 => ⟨S1x128, .f32⟩
  | 68 => ⟨S10240x16x8, .f32⟩
  | 69 => ⟨S1x8, .f32⟩
  | 70 => ⟨S1x8, .f32⟩
  | 71 => ⟨S8, .f32⟩
  | 72 => ⟨S_, .f32⟩
  | 73 => ⟨S8, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S8, .f32⟩
  | 81 => ⟨S_, .f32⟩
  | 82 => ⟨S8, .f32⟩
  | 83 => ⟨S8, .f32⟩
  | 84 => ⟨S8, .f32⟩
  | 85 => ⟨S8, .f32⟩
  | 86 => ⟨S8, .f32⟩
  | 87 => ⟨S8, .f32⟩
  | 88 => ⟨S1x8, .f32⟩
  | 89 => ⟨S1x8, .f32⟩
  | 90 => ⟨S1x8, .f32⟩
  | 91 => ⟨S1x128, .f32⟩
  | 92 => ⟨S1x128, .f32⟩
  | 93 => ⟨S10240x128, .f32⟩
  | 94 => ⟨S10240x16x8, .f32⟩
  | 95 => ⟨S_, .i32⟩
  | 96 => ⟨S10240x16, .i32⟩
  | 97 => ⟨S10240x16, .i1⟩
  | 98 => ⟨S_, .i32⟩
  | 99 => ⟨S10240x16, .i32⟩
  | 100 => ⟨S10240x16, .i32⟩
  | 101 => ⟨S10240x16, .i32⟩
  | 102 => ⟨S10240x16x1, .i32⟩
  | 103 => ⟨S10240x16x128, .f32⟩
  | 104 => ⟨S10240x16x8x16, .f32⟩
  | 105 => ⟨S10240x8x16, .f32⟩
  | 106 => ⟨S10240x128, .f32⟩
  | 107 => ⟨S10240x128, .f32⟩
  | 108 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x8, .f32⟩
  | .local _ .vmem, ⟨13, _⟩ => ⟨S512x128, .f32⟩
  | .local _ .vmem, ⟨14, _⟩ => ⟨S512x128, .f32⟩
  | .local _ .vmem, ⟨15, _⟩ => ⟨S512x8, .f32⟩
  | .local _ .vmem, ⟨16, _⟩ => ⟨S512x8, .f32⟩
  | .local _ .vmem, ⟨17, _⟩ => ⟨S512x8, .f32⟩
  | .local _ .vmem, ⟨18, _⟩ => ⟨S512x8, .f32⟩
  | .local _ .vmem, ⟨19, _⟩ => ⟨S512x16, .f32⟩
  | .local _ .vmem, ⟨20, _⟩ => ⟨S512x16, .f32⟩
  | .local _ .vmem, ⟨21, _⟩ => ⟨S512x16, .f32⟩
  | .local _ .vmem, ⟨22, _⟩ => ⟨S512x16, .f32⟩
  | .local _ .vmem, ⟨23, _⟩ => ⟨S512x16, .f32⟩
  | .local _ .vmem, ⟨24, _⟩ => ⟨S512x16, .f32⟩
  | .local _ .vmem, ⟨25, _⟩ => ⟨S512x16x8, .f32⟩
  | .local _ .vmem, ⟨26, _⟩ => ⟨S512x16x8, .f32⟩
  | .local _ .vmem, ⟨27, _⟩ => ⟨S512x8, .f32⟩
  | .local _ .vmem, ⟨28, _⟩ => ⟨S512x8, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S128x8, .f32⟩
  | .local _ .vmem, ⟨34, _⟩ => ⟨S1x8, .f32⟩
  | .local _ .vmem, ⟨35, _⟩ => ⟨S512x16x8, .f32⟩
  | .local _ .vmem, ⟨36, _⟩ => ⟨S512x16x8, .f32⟩
  | .local _ .vmem, ⟨37, _⟩ => ⟨S1x8, .f32⟩
  | .local _ .vmem, ⟨38, _⟩ => ⟨S1x8, .f32⟩
  | .local _ .vmem, ⟨39, _⟩ => ⟨S512x16x8, .f32⟩
  | .local _ .vmem, ⟨40, _⟩ => ⟨S512x16x8, .f32⟩
  | .local _ .vmem, ⟨41, _⟩ => ⟨S512x16, .f32⟩
  | .local _ .vmem, ⟨42, _⟩ => ⟨S512x16, .f32⟩
  | .local _ .vmem, ⟨43, _⟩ => ⟨S512x16, .f32⟩
  | .local _ .vmem, ⟨44, _⟩ => ⟨S512x16, .f32⟩
  | .local _ .vmem, ⟨45, _⟩ => ⟨S512x16, .f32⟩
  | .local _ .vmem, ⟨46, _⟩ => ⟨S512x16, .f32⟩
  | .local _ .vmem, ⟨47, _⟩ => ⟨S1x8, .f32⟩
  | .local _ .vmem, ⟨48, _⟩ => ⟨S1x8, .f32⟩
  | .local _ .vmem, ⟨49, _⟩ => ⟨S8x8, .f32⟩
  | .local _ .vmem, ⟨50, _⟩ => ⟨S1x8, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S128x128, .f32⟩
  | .local _ .vmem, ⟨56, _⟩ => ⟨S1x128, .f32⟩
  | .local _ .vmem, ⟨57, _⟩ => ⟨S512x128, .f32⟩
  | .local _ .vmem, ⟨58, _⟩ => ⟨S512x128, .f32⟩
  | .local _ .vmem, ⟨59, _⟩ => ⟨S512x16x8, .f32⟩
  | .local _ .vmem, ⟨60, _⟩ => ⟨S512x16x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_c : Ref sig .tc := ⟨.hbm, 25, rfl⟩
abbrev main_call0_v0 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c_0 : Ref sig .tc := ⟨.hbm, 32, rfl⟩
abbrev main_call1_v0 : Ref sig .tc := ⟨.hbm, 33, rfl⟩
abbrev main_v5 : Ref sig .tc := ⟨.hbm, 34, rfl⟩
abbrev main_v6_0 : Ref sig .tc := ⟨.hbm, 35, rfl⟩
abbrev main_v6_1 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_2 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_cst_7 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_8 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_11 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73_0 : Ref sig .tc := ⟨.hbm, 115, rfl⟩
abbrev main_v73_1 : Ref sig .tc := ⟨.hbm, 116, rfl⟩
abbrev main_v73_2 : Ref sig .tc := ⟨.hbm, 117, rfl⟩
abbrev main_c_12 : Ref sig .tc := ⟨.hbm, 118, rfl⟩
abbrev main_v74 : Ref sig .tc := ⟨.hbm, 119, rfl⟩
abbrev main_v75 : Ref sig .tc := ⟨.hbm, 120, rfl⟩
abbrev main_c_13 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_c_14 : Ref sig .tc := ⟨.hbm, 136, rfl⟩
abbrev main_v90 : Ref sig .tc := ⟨.hbm, 137, rfl⟩
abbrev main_v91 : Ref sig .tc := ⟨.hbm, 138, rfl⟩
abbrev main_c_15 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_16 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_17 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_18 : Ref sig .tc := ⟨.hbm, 155, rfl⟩
abbrev main_v105 : Ref sig .tc := ⟨.hbm, 156, rfl⟩
abbrev main_v106 : Ref sig .tc := ⟨.hbm, 157, rfl⟩
abbrev main_cst_19 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_20 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_21 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142_0 : Ref sig .tc := ⟨.hbm, 196, rfl⟩
abbrev main_v142_1 : Ref sig .tc := ⟨.hbm, 197, rfl⟩
abbrev main_v142_2 : Ref sig .tc := ⟨.hbm, 198, rfl⟩
abbrev main_v143 : Ref sig .tc := ⟨.hbm, 199, rfl⟩
abbrev main_cst_22 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_23 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_24 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162_0 : Ref sig .tc := ⟨.hbm, 221, rfl⟩
abbrev main_v162_1 : Ref sig .tc := ⟨.hbm, 222, rfl⟩
abbrev main_c_25 : Ref sig .tc := ⟨.hbm, 223, rfl⟩
abbrev main_v163 : Ref sig .tc := ⟨.hbm, 224, rfl⟩
abbrev main_v164 : Ref sig .tc := ⟨.hbm, 225, rfl⟩
abbrev main_c_26 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc1_stg10_0 : Ref sig .tc := ⟨.vmem, 17, rfl⟩
abbrev cc1_stg10_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc2_stg11_1 : Ref sig .tc := ⟨.vmem, 36, rfl⟩
abbrev cc2_stg12_0 : Ref sig .tc := ⟨.vmem, 37, rfl⟩
abbrev cc2_stg13_0 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg10_0 : Ref sig .tc := ⟨.vmem, 53, rfl⟩
abbrev cc3_stg11_0 : Ref sig .tc := ⟨.vmem, 54, rfl⟩
abbrev cc3_stg12_0 : Ref sig .tc := ⟨.vmem, 55, rfl⟩
abbrev cc3_stg13_0 : Ref sig .tc := ⟨.vmem, 56, rfl⟩
abbrev cc3_stg14_0 : Ref sig .tc := ⟨.vmem, 57, rfl⟩
abbrev cc3_stg14_1 : Ref sig .tc := ⟨.vmem, 58, rfl⟩
abbrev cc3_stg15_0 : Ref sig .tc := ⟨.vmem, 59, rfl⟩
abbrev cc3_stg15_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem8_1 : DmaSem sig := 14
abbrev cc1_sem9_0 : DmaSem sig := 15
abbrev cc1_sem9_1 : DmaSem sig := 16
abbrev cc1_sem10_0 : DmaSem sig := 17
abbrev cc1_sem10_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc2_sem11_1 : DmaSem sig := 36
abbrev cc2_sem12_0 : DmaSem sig := 37
abbrev cc2_sem13_0 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem10_0 : DmaSem sig := 53
abbrev cc3_sem11_0 : DmaSem sig := 54
abbrev cc3_sem12_0 : DmaSem sig := 55
abbrev cc3_sem13_0 : DmaSem sig := 56
abbrev cc3_sem14_0 : DmaSem sig := 57
abbrev cc3_sem14_1 : DmaSem sig := 58
abbrev cc3_sem15_0 : DmaSem sig := 59
abbrev cc3_sem15_1 : DmaSem sig := 60

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x8 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x16x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x8 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x8 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S512x16x8 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 1 → Memref sig .tc .vmem S1x8 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x8 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev grid3 : Pipeline.Grid := ⟨1, ![20], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x16x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S8x8 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x8 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S512x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S512x16x8 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]
-- ==== ReferenceIdeal.lean ====
abbrev S10000x128 : Shape := ⟨2, ![10000, 128]⟩
abbrev S10000x3 : Shape := ⟨2, ![10000, 3]⟩
abbrev S10000x16 : Shape := ⟨2, ![10000, 16]⟩
abbrev S128x128 : Shape := ⟨2, ![128, 128]⟩
abbrev S128 : Shape := ⟨1, ![128]⟩
abbrev S3x128 : Shape := ⟨2, ![3, 128]⟩
abbrev S128x8 : Shape := ⟨2, ![128, 8]⟩
abbrev S8 : Shape := ⟨1, ![8]⟩
abbrev S8x8 : Shape := ⟨2, ![8, 8]⟩
abbrev S1x128 : Shape := ⟨2, ![1, 128]⟩
abbrev S_ : Shape := ⟨0, ![]⟩
abbrev S10000x16x1 : Shape := ⟨3, ![10000, 16, 1]⟩
abbrev S10000x16x3 : Shape := ⟨3, ![10000, 16, 3]⟩
abbrev S10000x1x3 : Shape := ⟨3, ![10000, 1, 3]⟩
abbrev S10000x16x128 : Shape := ⟨3, ![10000, 16, 128]⟩
abbrev S10000x1x128 : Shape := ⟨3, ![10000, 1, 128]⟩
abbrev S1x1x128 : Shape := ⟨3, ![1, 1, 128]⟩
abbrev S10000x16x8 : Shape := ⟨3, ![10000, 16, 8]⟩
abbrev S1x1x8 : Shape := ⟨3, ![1, 1, 8]⟩
abbrev S10000x8 : Shape := ⟨2, ![10000, 8]⟩
abbrev S10000x1x8 : Shape := ⟨3, ![10000, 1, 8]⟩
abbrev S10000x16x8x16 : Shape := ⟨4, ![10000, 16, 8, 16]⟩
abbrev S10000x8x16 : Shape := ⟨3, ![10000, 8, 16]⟩

abbrev nBuf : Space → Nat
  | .hbm => 301
  | .vmem => 0
  | .smem => 0
  | _ => 0

abbrev hbmTy0_0 (i : Nat) : BufTy := match i % 128 with
  | 0 => ⟨S10000x128, .f32⟩
  | 1 => ⟨S10000x3, .f32⟩
  | 2 => ⟨S10000x16, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S3x128, .f32⟩
  | 14 => ⟨S128, .f32⟩
  | 15 => ⟨S128, .f32⟩
  | 16 => ⟨S128, .f32⟩
  | 17 => ⟨S128x128, .f32⟩
  | 18 => ⟨S128, .f32⟩
  | 19 => ⟨S128x8, .f32⟩
  | 20 => ⟨S8, .f32⟩
  | 21 => ⟨S8, .f32⟩
  | 22 => ⟨S8, .f32⟩
  | 23 => ⟨S8x8, .f32⟩
  | 24 => ⟨S8, .f32⟩
  | 25 => ⟨S10000x128, .f32⟩
  | 26 => ⟨S1x128, .f32⟩
  | 27 => ⟨S10000x128, .f32⟩
  | 28 => ⟨S10000x128, .f32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S_, .i32⟩
  | 36 => ⟨S_, .f32⟩
  | 37 => ⟨S128, .f32⟩
  | 38 => ⟨S1x128, .f32⟩
  | 39 => ⟨S_, .f32⟩
  | 40 => ⟨S1x128, .f32⟩
  | 41 => ⟨S1x128, .f32⟩
  | 42 => ⟨S10000x128, .f32⟩
  | 43 => ⟨S10000x128, .f32⟩
  | 44 => ⟨S10000x128, .f32⟩
  | 45 => ⟨S_, .f32⟩
  | 46 => ⟨S_, .f32⟩
  | 47 => ⟨S_, .f32⟩
  | 48 => ⟨S_, .f32⟩
  | 49 => ⟨S128, .f32⟩
  | 50 => ⟨S1x128, .f32⟩
  | 51 => ⟨S1x128, .f32⟩
  | 52 => ⟨S1x128, .f32⟩
  | 53 => ⟨S_, .f32⟩
  | 54 => ⟨S_, .i1⟩
  | 55 => ⟨S_, .f32⟩
  | 56 => ⟨S_, .f32⟩
  | 57 => ⟨S1x128, .f32⟩
  | 58 => ⟨S1x128, .f32⟩
  | 59 => ⟨S10000x128, .f32⟩
  | 60 => ⟨S10000x128, .f32⟩
  | 61 => ⟨S_, .f32⟩
  | 62 => ⟨S1x128, .f32⟩
  | 63 => ⟨S1x128, .f32⟩
  | 64 => ⟨S1x128, .f32⟩
  | 65 => ⟨S10000x128, .f32⟩
  | 66 => ⟨S10000x128, .f32⟩
  | 67 => ⟨S1x128, .f32⟩
  | 68 => ⟨S10000x128, .f32⟩
  | 69 => ⟨S10000x128, .f32⟩
  | 70 => ⟨S1x128, .f32⟩
  | 71 => ⟨S10000x128, .f32⟩
  | 72 => ⟨S10000x128, .f32⟩
  | 73 => ⟨S_, .f32⟩
  | 74 => ⟨S10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S_, .f32⟩
  | 81 => ⟨S128, .f32⟩
  | 82 => ⟨S1x128, .f32⟩
  | 83 => ⟨S_, .f32⟩
  | 84 => ⟨S1x128, .f32⟩
  | 85 => ⟨S1x128, .f32⟩
  | 86 => ⟨S_, .i32⟩
  | 87 => ⟨S_, .f32⟩
  | 88 => ⟨S128, .f32⟩
  | 89 => ⟨S1x128, .f32⟩
  | 90 => ⟨S_, .f32⟩
  | 91 => ⟨S1x128, .f32⟩
  | 92 => ⟨S1x128, .f32⟩
  | 93 => ⟨S10000x128, .f32⟩
  | 94 => ⟨S10000x128, .f32⟩
  | 95 => ⟨S10000x128, .f32⟩
  | 96 => ⟨S_, .f32⟩
  | 97 => ⟨S_, .f32⟩
  | 98 => ⟨S_, .f32⟩
  | 99 => ⟨S_, .f32⟩
  | 100 => ⟨S128, .f32⟩
  | 101 => ⟨S1x128, .f32⟩
  | 102 => ⟨S1x128, .f32⟩
  | 103 => ⟨S1x128, .f32⟩
  | 104 => ⟨S_, .f32⟩
  | 105 => ⟨S_, .i1⟩
  | 106 => ⟨S_, .f32⟩
  | 107 => ⟨S_, .f32⟩
  | 108 => ⟨S1x128, .f32⟩
  | 109 => ⟨S1x128, .f32⟩
  | 110 => ⟨S10000x128, .f32⟩
  | 111 => ⟨S10000x128, .f32⟩
  | 112 => ⟨S_, .f32⟩
  | 113 => ⟨S1x128, .f32⟩
  | 114 => ⟨S1x128, .f32⟩
  | 115 => ⟨S1x128, .f32⟩
  | 116 => ⟨S10000x128, .f32⟩
  | 117 => ⟨S10000x128, .f32⟩
  | 118 => ⟨S1x128, .f32⟩
  | 119 => ⟨S10000x128, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S10000x128, .f32⟩
  | _ => ⟨S10000x128, .f32⟩

abbrev hbmTy0_1 (i : Nat) : BufTy := match i % 128 with
  | 0 => ⟨S1x128, .f32⟩
  | 1 => ⟨S10000x128, .f32⟩
  | 2 => ⟨S10000x128, .f32⟩
  | 3 => ⟨S_, .i32⟩
  | 4 => ⟨S10000x16, .i32⟩
  | 5 => ⟨S10000x16, .i1⟩
  | 6 => ⟨S_, .i32⟩
  | 7 => ⟨S10000x16, .i32⟩
  | 8 => ⟨S10000x16, .i32⟩
  | 9 => ⟨S10000x16, .i32⟩
  | 10 => ⟨S10000x16x1, .i32⟩
  | 11 => ⟨S10000x16x3, .f32⟩
  | 12 => ⟨S10000x1x3, .f32⟩
  | 13 => ⟨S10000x16x3, .f32⟩
  | 14 => ⟨S10000x16x3, .f32⟩
  | 15 => ⟨S_, .i32⟩
  | 16 => ⟨S10000x16, .i32⟩
  | 17 => ⟨S10000x16, .i1⟩
  | 18 => ⟨S_, .i32⟩
  | 19 => ⟨S10000x16, .i32⟩
  | 20 => ⟨S10000x16, .i32⟩
  | 21 => ⟨S10000x16, .i32⟩
  | 22 => ⟨S10000x16x1, .i32⟩
  | 23 => ⟨S10000x16x128, .f32⟩
  | 24 => ⟨S_, .i32⟩
  | 25 => ⟨S10000x16, .i32⟩
  | 26 => ⟨S10000x16, .i1⟩
  | 27 => ⟨S_, .i32⟩
  | 28 => ⟨S10000x16, .i32⟩
  | 29 => ⟨S10000x16, .i32⟩
  | 30 => ⟨S10000x16, .i32⟩
  | 31 => ⟨S10000x16x1, .i32⟩
  | 32 => ⟨S10000x16x128, .f32⟩
  | 33 => ⟨S10000x1x128, .f32⟩
  | 34 => ⟨S10000x16x128, .f32⟩
  | 35 => ⟨S10000x16x128, .f32⟩
  | 36 => ⟨S10000x16x128, .f32⟩
  | 37 => ⟨S1x1x128, .f32⟩
  | 38 => ⟨S10000x16x128, .f32⟩
  | 39 => ⟨S10000x16x128, .f32⟩
  | 40 => ⟨S_, .f32⟩
  | 41 => ⟨S128, .f32⟩
  | 42 => ⟨S1x1x128, .f32⟩
  | 43 => ⟨S_, .f32⟩
  | 44 => ⟨S1x1x128, .f32⟩
  | 45 => ⟨S1x1x128, .f32⟩
  | 46 => ⟨S_, .i32⟩
  | 47 => ⟨S_, .f32⟩
  | 48 => ⟨S128, .f32⟩
  | 49 => ⟨S1x1x128, .f32⟩
  | 50 => ⟨S_, .f32⟩
  | 51 => ⟨S1x1x128, .f32⟩
  | 52 => ⟨S1x1x128, .f32⟩
  | 53 => ⟨S10000x16x128, .f32⟩
  | 54 => ⟨S10000x16x128, .f32⟩
  | 55 => ⟨S10000x16x128, .f32⟩
  | 56 => ⟨S_, .f32⟩
  | 57 => ⟨S_, .f32⟩
  | 58 => ⟨S_, .f32⟩
  | 59 => ⟨S_, .f32⟩
  | 60 => ⟨S128, .f32⟩
  | 61 => ⟨S1x1x128, .f32⟩
  | 62 => ⟨S1x1x128, .f32⟩
  | 63 => ⟨S1x1x128, .f32⟩
  | 64 => ⟨S_, .f32⟩
  | 65 => ⟨S_, .i1⟩
  | 66 => ⟨S_, .f32⟩
  | 67 => ⟨S_, .f32⟩
  | 68 => ⟨S1x1x128, .f32⟩
  | 69 => ⟨S1x1x128, .f32⟩
  | 70 => ⟨S10000x16x128, .f32⟩
  | 71 => ⟨S10000x16x128, .f32⟩
  | 72 => ⟨S_, .f32⟩
  | 73 => ⟨S1x1x128, .f32⟩
  | 74 => ⟨S1x1x128, .f32⟩
  | 75 => ⟨S1x1x128, .f32⟩
  | 76 => ⟨S10000x16x128, .f32⟩
  | 77 => ⟨S10000x16x128, .f32⟩
  | 78 => ⟨S1x1x128, .f32⟩
  | 79 => ⟨S10000x16x128, .f32⟩
  | 80 => ⟨S10000x16x128, .f32⟩
  | 81 => ⟨S1x1x128, .f32⟩
  | 82 => ⟨S10000x16x128, .f32⟩
  | 83 => ⟨S10000x16x128, .f32⟩
  | 84 => ⟨S_, .f32⟩
  | 85 => ⟨S10000x16x128, .f32⟩
  | 86 => ⟨S10000x16x128, .f32⟩
  | 87 => ⟨S10000x16x128, .f32⟩
  | 88 => ⟨S1x1x128, .f32⟩
  | 89 => ⟨S10000x16x128, .f32⟩
  | 90 => ⟨S10000x16x128, .f32⟩
  | 91 => ⟨S10000x16x128, .f32⟩
  | 92 => ⟨S10000x16x128, .f32⟩
  | 93 => ⟨S10000x16x8, .f32⟩
  | 94 => ⟨S1x1x8, .f32⟩
  | 95 => ⟨S10000x16x8, .f32⟩
  | 96 => ⟨S10000x16x8, .f32⟩
  | 97 => ⟨S_, .f32⟩
  | 98 => ⟨S8, .f32⟩
  | 99 => ⟨S1x1x8, .f32⟩
  | 100 => ⟨S_, .f32⟩
  | 101 => ⟨S1x1x8, .f32⟩
  | 102 => ⟨S1x1x8, .f32⟩
  | 103 => ⟨S_, .i32⟩
  | 104 => ⟨S_, .f32⟩
  | 105 => ⟨S8, .f32⟩
  | 106 => ⟨S1x1x8, .f32⟩
  | 107 => ⟨S_, .f32⟩
  | 108 => ⟨S1x1x8, .f32⟩
  | 109 => ⟨S1x1x8, .f32⟩
  | 110 => ⟨S10000x16x8, .f32⟩
  | 111 => ⟨S10000x16x8, .f32⟩
  | 112 => ⟨S10000x16x8, .f32⟩
  | 113 => ⟨S_, .f32⟩
  | 114 => ⟨S_, .f32⟩
  | 115 => ⟨S_, .f32⟩
  | 116 => ⟨S_, .f32⟩
  | 117 => ⟨S8, .f32⟩
  | 118 => ⟨S1x1x8, .f32⟩
  | 119 => ⟨S1x1x8, .f32⟩
  | 120 => ⟨S1x1x8, .f32⟩
  | 121 => ⟨S_, .f32⟩
  | 122 => ⟨S_, .i1⟩
  | 123 => ⟨S_, .f32⟩
  | 124 => ⟨S_, .f32⟩
  | 125 => ⟨S1x1x8, .f32⟩
  | 126 => ⟨S1x1x8, .f32⟩
  | 127 => ⟨S10000x16x8, .f32⟩
  | _ => ⟨S10000x128, .f32⟩

abbrev hbmTy0_2 (i : Nat) : BufTy := match i % 128 with
  | 0 => ⟨S10000x16x8, .f32⟩
  | 1 => ⟨S_, .f32⟩
  | 2 => ⟨S1x1x8, .f32⟩
  | 3 => ⟨S1x1x8, .f32⟩
  | 4 => ⟨S1x1x8, .f32⟩
  | 5 => ⟨S10000x16x8, .f32⟩
  | 6 => ⟨S10000x16x8, .f32⟩
  | 7 => ⟨S1x1x8, .f32⟩
  | 8 => ⟨S10000x16x8, .f32⟩
  | 9 => ⟨S10000x16x8, .f32⟩
  | 10 => ⟨S1x1x8, .f32⟩
  | 11 => ⟨S10000x16x8, .f32⟩
  | 12 => ⟨S10000x16x8, .f32⟩
  | 13 => ⟨S_, .f32⟩
  | 14 => ⟨S10000x16x8, .f32⟩
  | 15 => ⟨S10000x16x8, .f32⟩
  | 16 => ⟨S10000x16x8, .f32⟩
  | 17 => ⟨S1x1x8, .f32⟩
  | 18 => ⟨S10000x16x8, .f32⟩
  | 19 => ⟨S10000x16x8, .f32⟩
  | 20 => ⟨S_, .f32⟩
  | 21 => ⟨S10000x8, .f32⟩
  | 22 => ⟨S_, .f32⟩
  | 23 => ⟨S10000x8, .f32⟩
  | 24 => ⟨S10000x8, .f32⟩
  | 25 => ⟨S10000x1x8, .f32⟩
  | 26 => ⟨S10000x16x8, .f32⟩
  | 27 => ⟨S10000x16x8, .f32⟩
  | 28 => ⟨S10000x16x8, .f32⟩
  | 29 => ⟨S_, .f32⟩
  | 30 => ⟨S10000x8, .f32⟩
  | 31 => ⟨S10000x1x8, .f32⟩
  | 32 => ⟨S10000x16x8, .f32⟩
  | 33 => ⟨S10000x16x8, .f32⟩
  | 34 => ⟨S_, .i32⟩
  | 35 => ⟨S10000x16, .i32⟩
  | 36 => ⟨S10000x16, .i32⟩
  | 37 => ⟨S10000x16, .i32⟩
  | 38 => ⟨S10000x16, .f32⟩
  | 39 => ⟨S10000x16x1, .f32⟩
  | 40 => ⟨S10000x16x8, .f32⟩
  | 41 => ⟨S10000x16x8, .f32⟩
  | 42 => ⟨S10000x16x8x16, .f32⟩
  | 43 => ⟨S10000x8x16, .f32⟩
  | 44 => ⟨S10000x128, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_cst_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_cst_1 : Ref sig .tc := ⟨.hbm, 46, rfl⟩
abbrev main_call0_v8 : Ref sig .tc := ⟨.hbm, 47, rfl⟩
abbrev main_call0_cst_2 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_v12 : Ref sig .tc := ⟨.hbm, 52, rfl⟩
abbrev main_call0_cst_3 : Ref sig .tc := ⟨.hbm, 53, rfl⟩
abbrev main_call0_v13 : Ref sig .tc := ⟨.hbm, 54, rfl⟩
abbrev main_call0_cst_4 : Ref sig .tc := ⟨.hbm, 55, rfl⟩
abbrev main_call0_call0_v0 : Ref sig .tc := ⟨.hbm, 56, rfl⟩
abbrev main_call0_call0_v1 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst_1 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_call1_cst : Ref sig .tc := ⟨.hbm, 73, rfl⟩
abbrev main_call1_v0 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_cst_2 : Ref sig .tc := ⟨.hbm, 80, rfl⟩
abbrev main_v27 : Ref sig .tc := ⟨.hbm, 81, rfl⟩
abbrev main_v28 : Ref sig .tc := ⟨.hbm, 82, rfl⟩
abbrev main_cst_3 : Ref sig .tc := ⟨.hbm, 83, rfl⟩
abbrev main_v29 : Ref sig .tc := ⟨.hbm, 84, rfl⟩
abbrev main_v30 : Ref sig .tc := ⟨.hbm, 85, rfl⟩
abbrev main_c_4 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_cst_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_v6 : Ref sig .tc := ⟨.hbm, 95, rfl⟩
abbrev main_call2_v7 : Ref sig .tc := ⟨.hbm, 96, rfl⟩
abbrev main_call2_cst_1 : Ref sig .tc := ⟨.hbm, 97, rfl⟩
abbrev main_call2_v8 : Ref sig .tc := ⟨.hbm, 98, rfl⟩
abbrev main_call2_cst_2 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_cst_3 : Ref sig .tc := ⟨.hbm, 104, rfl⟩
abbrev main_call2_v13 : Ref sig .tc := ⟨.hbm, 105, rfl⟩
abbrev main_call2_cst_4 : Ref sig .tc := ⟨.hbm, 106, rfl⟩
abbrev main_call2_call0_v0 : Ref sig .tc := ⟨.hbm, 107, rfl⟩
abbrev main_call2_call0_v1 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_cst_5 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_call3_cst : Ref sig .tc := ⟨.hbm, 124, rfl⟩
abbrev main_call3_v0 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_c_6 : Ref sig .tc := ⟨.hbm, 131, rfl⟩
abbrev main_v50 : Ref sig .tc := ⟨.hbm, 132, rfl⟩
abbrev main_v51 : Ref sig .tc := ⟨.hbm, 133, rfl⟩
abbrev main_c_7 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_c_8 : Ref sig .tc := ⟨.hbm, 143, rfl⟩
abbrev main_v60 : Ref sig .tc := ⟨.hbm, 144, rfl⟩
abbrev main_v61 : Ref sig .tc := ⟨.hbm, 145, rfl⟩
abbrev main_c_9 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_c_10 : Ref sig .tc := ⟨.hbm, 152, rfl⟩
abbrev main_v67 : Ref sig .tc := ⟨.hbm, 153, rfl⟩
abbrev main_v68 : Ref sig .tc := ⟨.hbm, 154, rfl⟩
abbrev main_c_11 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_cst_12 : Ref sig .tc := ⟨.hbm, 168, rfl⟩
abbrev main_v81 : Ref sig .tc := ⟨.hbm, 169, rfl⟩
abbrev main_v82 : Ref sig .tc := ⟨.hbm, 170, rfl⟩
abbrev main_cst_13 : Ref sig .tc := ⟨.hbm, 171, rfl⟩
abbrev main_v83 : Ref sig .tc := ⟨.hbm, 172, rfl⟩
abbrev main_v84 : Ref sig .tc := ⟨.hbm, 173, rfl⟩
abbrev main_c_14 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_cst_3 : Ref sig .tc := ⟨.hbm, 192, rfl⟩
abbrev main_call4_v13 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v85 : Ref sig .tc := ⟨.hbm, 197, rfl⟩
abbrev main_v86 : Ref sig .tc := ⟨.hbm, 198, rfl⟩
abbrev main_v87 : Ref sig .tc := ⟨.hbm, 199, rfl⟩
abbrev main_cst_15 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_v96 : Ref sig .tc := ⟨.hbm, 209, rfl⟩
abbrev main_v97 : Ref sig .tc := ⟨.hbm, 210, rfl⟩
abbrev main_v98 : Ref sig .tc := ⟨.hbm, 211, rfl⟩
abbrev main_call5_cst : Ref sig .tc := ⟨.hbm, 212, rfl⟩
abbrev main_call5_v0 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_cst_16 : Ref sig .tc := ⟨.hbm, 225, rfl⟩
abbrev main_v110 : Ref sig .tc := ⟨.hbm, 226, rfl⟩
abbrev main_v111 : Ref sig .tc := ⟨.hbm, 227, rfl⟩
abbrev main_cst_17 : Ref sig .tc := ⟨.hbm, 228, rfl⟩
abbrev main_v112 : Ref sig .tc := ⟨.hbm, 229, rfl⟩
abbrev main_v113 : Ref sig .tc := ⟨.hbm, 230, rfl⟩
abbrev main_c_18 : Ref sig .tc := ⟨.hbm, 231, rfl⟩
abbrev main_call6_cst : Ref sig .tc := ⟨.hbm, 232, rfl⟩
abbrev main_call6_v0 : Ref sig .tc := ⟨.hbm, 233, rfl⟩
abbrev main_call6_v1 : Ref sig .tc := ⟨.hbm, 234, rfl⟩
abbrev main_call6_cst_0 : Ref sig .tc := ⟨.hbm, 235, rfl⟩
abbrev main_call6_v2 : Ref sig .tc := ⟨.hbm, 236, rfl⟩
abbrev main_call6_v3 : Ref sig .tc := ⟨.hbm, 237, rfl⟩
abbrev main_call6_v4 : Ref sig .tc := ⟨.hbm, 238, rfl⟩
abbrev main_call6_v5 : Ref sig .tc := ⟨.hbm, 239, rfl⟩
abbrev main_call6_v6 : Ref sig .tc := ⟨.hbm, 240, rfl⟩
abbrev main_call6_v7 : Ref sig .tc := ⟨.hbm, 241, rfl⟩
abbrev main_call6_cst_1 : Ref sig .tc := ⟨.hbm, 242, rfl⟩
abbrev main_call6_v8 : Ref sig .tc := ⟨.hbm, 243, rfl⟩
abbrev main_call6_cst_2 : Ref sig .tc := ⟨.hbm, 244, rfl⟩
abbrev main_call6_v9 : Ref sig .tc := ⟨.hbm, 245, rfl⟩
abbrev main_call6_v10 : Ref sig .tc := ⟨.hbm, 246, rfl⟩
abbrev main_call6_v11 : Ref sig .tc := ⟨.hbm, 247, rfl⟩
abbrev main_call6_v12 : Ref sig .tc := ⟨.hbm, 248, rfl⟩
abbrev main_call6_cst_3 : Ref sig .tc := ⟨.hbm, 249, rfl⟩
abbrev main_call6_v13 : Ref sig .tc := ⟨.hbm, 250, rfl⟩
abbrev main_call6_cst_4 : Ref sig .tc := ⟨.hbm, 251, rfl⟩
abbrev main_call6_call0_v0 : Ref sig .tc := ⟨.hbm, 252, rfl⟩
abbrev main_call6_call0_v1 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_cst_19 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_call7_cst : Ref sig .tc := ⟨.hbm, 269, rfl⟩
abbrev main_call7_v0 : Ref sig .tc := ⟨.hbm, 270, rfl⟩
abbrev main_v128 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_v132 : Ref sig .tc := ⟨.hbm, 275, rfl⟩
abbrev main_cst_20 : Ref sig .tc := ⟨.hbm, 276, rfl⟩
abbrev main_v133 : Ref sig .tc := ⟨.hbm, 277, rfl⟩
abbrev main_cst_21 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩
abbrev main_v139 : Ref sig .tc := ⟨.hbm, 284, rfl⟩
abbrev main_cst_22 : Ref sig .tc := ⟨.hbm, 285, rfl⟩
abbrev main_v140 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_c_23 : Ref sig .tc := ⟨.hbm, 290, rfl⟩
abbrev main_v144 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_v151 : Ref sig .tc := ⟨.hbm, 298, rfl⟩
abbrev main_v152 : Ref sig .tc := ⟨.hbm, 299, rfl⟩
abbrev main_v153 : Ref sig .tc := ⟨.hbm, 300, rfl⟩

abbrev nD : Nat := 1
abbrev τ : Topo := Topo.v7x

variable {F : FTy → Type} [FloatOps F]
-- ==== Proof.Run.lean ====
/- The run of the kernel, with the contents of its result buffer

The generated frame says that the arguments end unchanged.  The same launch also fixes every other buffer of the core
at the last boundary's contents `W12`; `run` reads off the result buffer together with the arguments. -/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel terminates with the result buffer at the last boundary's contents and the arguments
    as launched. -/
theorem run : θ_run defs (onTc (τ := τ) (main (F := F))) ⟨m, fun _ => 0, ρ⟩ (fun r => ∀ c : Dev nD,
      r.2.mem ((c.tc : Thread nD τ).loc main_v174) = W12 m ρ c (Proc.devRef .tc main_v174) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18) ∧
      r.2.mem ((c.tc : Thread nD τ).loc main_arg19) = m ((c.tc : Thread nD τ).loc main_arg19) ∧
      r.2.mem ((c.tc : Thread nD τ).loc main_arg20) = m ((c.tc : Thread nD τ).loc main_arg20) ∧
      r.2.mem ((c.tc : Thread nD τ).loc main_arg21) = m ((c.tc : Thread nD τ).loc main_arg21) ∧
      r.2.mem ((c.tc : Thread nD τ).loc main_arg22) = m ((c.tc : Thread nD τ).loc main_arg22) ∧
      r.2.mem ((c.tc : Thread nD τ).loc main_arg23) = m ((c.tc : Thread nD τ).loc main_arg23) ∧
      r.2.mem ((c.tc : Thread nD τ).loc main_arg24) = m ((c.tc : Thread nD τ).loc main_arg24)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => fun c =>
      ⟨(h c _ (mem_uc main_v174 (by decide))),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c)⟩)

end Cert.KernelIdeal.Value

end
-- ==== Proof.Reads.lean ====
/-
  Facts about exact float values that the proofs of this kernel share: finite values add, multiply,
  divide and sum as reals do, the constants the programs name, and how a row gather and a sum over
  the two leading axes of a rank 3 array read at an index.
-/
module

public import Idealize.ShloMosaic.Lib.Pointwise

@[expose] public section

set_option maxRecDepth 16384

noncomputable section
open Idealize.ShloMosaic

namespace Cert.Reads

/-- A finite sum of real values is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Exact division of reals with a nonzero divisor is real division. -/
theorem div_real (a b : ℝ) (hb : b ≠ 0) : Ideal.div (a : EReal) (b : EReal) = ((a / b : ℝ) : EReal) := by
  rw [Ideal.div_coe hb, ← EReal.coe_mul, mul_one_div]

/-- The exact square root of a nonnegative real is the real square root. -/
theorem sqrt_real (a : ℝ) (ha : 0 ≤ a) : Ideal.sqrt (a : EReal) = ((Real.sqrt a : ℝ) : EReal) := by
  rw [Ideal.sqrt_coe, if_neg (not_lt.mpr ha)]

/-- The maximum of two reals. -/
theorem max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The greatest of a nonempty family of reals, folded from minus infinity. -/
theorem fold_max {n : Nat} (f : Fin (n + 1) → ℝ) :
    (Finset.univ : Finset (Fin (n + 1))).fold max (⊥ : EReal) (fun k => ((f k : ℝ) : EReal))
      = ((Finset.univ.sup' ⟨0, Finset.mem_univ _⟩ f : ℝ) : EReal) := by
  refine le_antisymm ?_ ?_
  · rw [Finset.fold_max_le]
    refine ⟨bot_le, fun x _ => ?_⟩
    rw [EReal.coe_le_coe_iff]
    exact Finset.le_sup' f (Finset.mem_univ x)
  · obtain ⟨k, hk, he⟩ := Finset.exists_mem_eq_sup' (⟨0, Finset.mem_univ _⟩ : (Finset.univ : Finset (Fin (n+1))).Nonempty) f
    rw [he, Finset.le_fold_max]
    exact Or.inr ⟨k, hk, le_refl _⟩

/-- The small constant that the variances are shifted by. -/
def eps : ℝ := 10995116 * (2 : ℝ) ^ (-40 : ℤ)

/-- Epsilon is positive. -/
theorem eps_pos : 0 < eps := by unfold eps; positivity

/-- The literal 0. -/
theorem c_zero : Ideal.ofBits .f32 (0x00000000#32) = ((0 : ℝ) : EReal) := by
  simp [Ideal.ofBits, Ideal.ieee]
/-- The literal 10000. -/
theorem c_1e4 : Ideal.ofBits .f32 (0x461C4000#32) = ((10000 : ℝ) : EReal) := by
  simp [Ideal.ofBits, Ideal.ieee, zpow_neg]; rw [← EReal.coe_mul]; norm_num
/-- The literal 160000. -/
theorem c_16e4 : Ideal.ofBits .f32 (0x481C4000#32) = ((160000 : ℝ) : EReal) := by
  simp [Ideal.ofBits, Ideal.ieee, zpow_neg]; rw [← EReal.coe_mul]; norm_num
/-- The literal 2. -/
theorem c_two : Ideal.ofBits .f32 (0x40000000#32) = ((2 : ℝ) : EReal) := by
  simp [Ideal.ofBits, Ideal.ieee, zpow_neg]; rw [← EReal.coe_mul]; norm_num
/-- The literal epsilon. -/
theorem c_eps : Ideal.ofBits .f32 (0x3727C5AC#32) = ((eps : ℝ) : EReal) := by
  unfold eps
  simp [Ideal.ofBits, Ideal.ieee, zpow_neg]
/-- The literal minus infinity. -/
theorem c_bot : Ideal.ofBits .f32 (0xFF800000#32) = (⊥ : EReal) := by
  simp [Ideal.ofBits, Ideal.ieee]
/-- The literal infinity. -/
theorem c_top : Ideal.ofBits .f32 (0x7F800000#32) = (⊤ : EReal) := by
  simp [Ideal.ofBits, Ideal.ieee]

section r3_a01
variable {n0 n1 n2 : Nat} {t : Shape}

/-- A reduction of the two leading axes of three leaves one. -/
theorem rank_a01 (h : (⟨3, ![n0, n1, n2]⟩ : Shape).ReducesTo [0, 1] t) : t.rank = 1 := h.1
/-- The one axis that is left. -/
theorem lt_a01 (h : (⟨3, ![n0, n1, n2]⟩ : Shape).ReducesTo [0, 1] t) : 0 < t.rank := rank_a01 h ▸ (by decide)
/-- The extent of the axis that is left. -/
theorem size_a01 (h : (⟨3, ![n0, n1, n2]⟩ : Shape).ReducesTo [0, 1] t) : t.size ⟨0, lt_a01 h⟩ = n2 := h.2 ⟨0, lt_a01 h⟩

/-- Which source indices a sum over the two leading axes collects into result index `j`. -/
theorem fiber_a01 (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt_a01 h⟩).val, Shape.coordLt (j ⟨0, lt_a01 h⟩) (size_a01 h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt_a01 h⟩)).symm
  · rintro ⟨k, rfl⟩
    funext b
    apply Fin.ext
    match b with
    | ⟨0, _⟩ => rfl
    | ⟨_ + 1, hb⟩ => exact absurd hb (by have := rank_a01 h; omega)

/-- A sum over the two leading axes of a rank 3 array. -/
theorem sum_fiber_a01 (h : (⟨3, ![n0, n1, n2]⟩ : Shape).ReducesTo [0, 1] t) (j : t.Idx) {M : Type*} [AddCommMonoid M]
    (v : (⟨3, ![n0, n1, n2]⟩ : Shape).Idx → M) :
    ∑ i ∈ Finset.univ.filter (fun i => h.drop i = j), v i = ∑ k0 : Fin n0, ∑ k1 : Fin n1, v (ix3 k0 k1 ⟨(j ⟨0, lt_a01 h⟩).val, Shape.coordLt (j ⟨0, lt_a01 h⟩) (size_a01 h)⟩) := by
  refine (Finset.sum_filter_eq_sum_of_fiber _ (fun k : Fin n0 × Fin n1 => ix3 k.1 k.2 ⟨(j ⟨0, lt_a01 h⟩).val, Shape.coordLt (j ⟨0, lt_a01 h⟩) (size_a01 h)⟩)
    (fun _ _ e => Prod.ext (congrFun e 0) (congrFun e 1)) (fiber_a01 h j) v).trans ?_
  simp only [Fintype.sum_prod_type]

/-- The host's sum over the two leading axes of a rank 3 array, exactly. -/
theorem hostReduceAdd_a01 (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, lt_a01 h⟩).val, Shape.coordLt (j ⟨0, lt_a01 h⟩) (size_a01 h)⟩) :=
  congrArg (init + ·) (sum_fiber_a01 h j v)

/-- The kernel's sum over the two leading axes of a rank 3 array, exactly. -/
theorem reduceAdd_a01 (h : (⟨3, ![n0, n1, n2]⟩ : Shape).Reduces [0, 1] t) (v : (⟨3, ![n0, n1, n2]⟩ : Shape).Idx → EReal) (j : t.Idx) :
    Ideal.reduceAdd h v j = ∑ k0 : Fin n0, ∑ k1 : Fin n1, v (ix3 k0 k1 ⟨(j ⟨0, lt_a01 h.reducesTo⟩).val, Shape.coordLt (j ⟨0, lt_a01 h.reducesTo⟩) (size_a01 h.reducesTo)⟩) :=
  sum_fiber_a01 h.reducesTo j v

end r3_a01

/-- A gather of whole rows reads, at `(n, s, c)`, column `c` of the row that the index at `(n, s)` names. -/
theorem gather_rows {α : Type} {N R K C w : Nat} (hN : 0 < N)
    (wf : GatherDims.WF ⟨2, ![N, C]⟩ ⟨3, ![R, K, 1]⟩ ⟨3, ![R, K, C]⟩ [2] [0] [] [0] [] 2 ![1, C])
    (x : (⟨2, ![N, C]⟩ : Shape).Idx → α) (idx : IVec ⟨3, ![R, K, 1]⟩ w) (n : Fin R) (s : Fin K) (c : Fin C) :
    Host.gather (t := ⟨3, ![R, K, C]⟩) { offsetDims := [2], collapsedSliceDims := [0], operandBatchingDims := [], startIndicesBatchingDims := [], startIndexMap := [0], indexVectorDim := 2, sliceSizes := ![1, C], wf := wf } x idx (ix3 n s c)
      = x (ix2 ⟨min (idx (ix3 n s (0 : Fin 1))).toInt.toNat (N - 1), by omega⟩ c) := by
  unfold Host.gather
  congr 1
  funext a
  refine Fin.ext ?_
  show GatherDims.start _ _ _ _ + GatherDims.batchCoord _ _ _ + GatherDims.offCoord _ _ _ = _
  have h01 : a = 0 ∨ a = 1 := by
    match a with
    | ⟨0, _⟩ => exact Or.inl rfl
    | ⟨1, _⟩ => exact Or.inr rfl
  rw [GatherDims.batchCoord_eq_zero _ _ _ (fun h => by simp at h)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun z => (idx z).toInt.toNat) ?_) rfl
    funext b; refine Fin.ext ?_
    match b with
    | ⟨0, _⟩ => rfl
    | ⟨1, _⟩ => rfl
    | ⟨2, _⟩ => rfl
  · unfold GatherDims.start
    rw [dif_neg (fun h => by simp at h)]
    unfold GatherDims.offCoord
    rw [dif_pos ((GatherDims.mem_sKept _ _).mpr ⟨by simp, by simp⟩)]
    simp only [Nat.zero_add]
    rfl

end Cert.Reads
end
-- ==== Proof.Math.lean ====
/-
  The layer over the real numbers: the model that both programs compute, and the identities that take
  the kernel's folded normalizations and split weighted sum to it.
-/
module

public import proofs.«01_k».proof.Proof.Reads

@[expose] public section

set_option maxRecDepth 16384

noncomputable section
namespace Cert.Model
open Cert.Reads (eps eps_pos)

section stats
variable {ι : Type*} [Fintype ι]

/-- The mean of a family, with its number of members given. -/
def mean (c : ℝ) (y : ι → ℝ) : ℝ := (∑ i, y i) / c

/-- The biased variance of a family. -/
def var (c : ℝ) (y : ι → ℝ) : ℝ := (∑ i, (y i - mean c y) * (y i - mean c y)) / c

/-- The divisor of a normalization. -/
def dev (c : ℝ) (y : ι → ℝ) : ℝ := Real.sqrt (var c y + eps)

/-- The normalized and rescaled family. -/
def bn (c : ℝ) (y : ι → ℝ) (g b : ℝ) (i : ι) : ℝ := (y i - mean c y) / dev c y * g + b

/-- The factor of the folded normalization. -/
def scl (c : ℝ) (y : ι → ℝ) (g : ℝ) : ℝ := g / dev c y

/-- A variance is not negative. -/
theorem var_nonneg {c : ℝ} (hc : 0 < c) (y : ι → ℝ) : 0 ≤ var c y :=
  div_nonneg (Finset.sum_nonneg fun i _ => mul_self_nonneg _) hc.le

/-- A variance and epsilon is positive. -/
theorem var_eps_pos {c : ℝ} (hc : 0 < c) (y : ι → ℝ) : 0 < var c y + eps :=
  add_pos_of_nonneg_of_pos (var_nonneg hc y) eps_pos

/-- The deviation is not zero. -/
theorem dev_ne {c : ℝ} (hc : 0 < c) (y : ι → ℝ) : dev c y ≠ 0 :=
  (Real.sqrt_pos.mpr (var_eps_pos hc y)).ne'

/-- The variance is the mean of the squares less the square of the mean. -/
theorem var_eq {c : ℝ} (hc : 0 < c) (hn : (Fintype.card ι : ℝ) = c) (y : ι → ℝ) :
    (∑ i, y i * y i) / c - mean c y * mean c y = var c y := by
  have hs : ∑ i, y i = c * mean c y := by unfold mean; field_simp
  have e : ∑ i, (y i - mean c y) * (y i - mean c y) = (∑ i, y i * y i) - 2 * mean c y * (∑ i, y i) + c * (mean c y * mean c y) := by
    have : ∀ i, (y i - mean c y) * (y i - mean c y) = y i * y i - 2 * mean c y * y i + mean c y * mean c y := fun i => by ring
    simp only [this, Finset.sum_add_distrib, Finset.sum_sub_distrib, ← Finset.mul_sum, Finset.sum_const, Finset.card_univ, nsmul_eq_mul, hn]
    ring
  unfold var
  rw [e, hs]
  field_simp
  ring

/-- The normalization as a factor and an offset. -/
theorem bn_fold (c : ℝ) (y : ι → ℝ) (g b : ℝ) (i : ι) :
    y i * scl c y g + (b - mean c y * scl c y g) = bn c y g b i := by
  unfold bn scl; ring

/-- The mean of a family shifted by a constant, from its sum. -/
theorem mean_shift {c : ℝ} (hc : 0 < c) (hn : (Fintype.card ι : ℝ) = c) (l : ι → ℝ) (b : ℝ) :
    ((∑ i, l i) + c * b) / c = mean c (fun i => l i + b) := by
  unfold mean
  rw [Finset.sum_add_distrib, Finset.sum_const, Finset.card_univ, nsmul_eq_mul, hn]

/-- The mean of a shifted family, with the shift added after the division. -/
theorem mean_shift' {c : ℝ} (hc : 0 < c) (hn : (Fintype.card ι : ℝ) = c) (l : ι → ℝ) (b : ℝ) :
    (∑ i, l i) / c + b = mean c (fun i => l i + b) := by
  rw [← mean_shift hc hn]; field_simp

/-- The sum of the squares of a shifted family. -/
theorem sq_shift {c : ℝ} (hn : (Fintype.card ι : ℝ) = c) (l : ι → ℝ) (b : ℝ) :
    ∑ i, (l i + b) * (l i + b) = (∑ i, l i * l i) + 2 * b * (∑ i, l i) + c * b * b := by
  have : ∀ i, (l i + b) * (l i + b) = l i * l i + 2 * b * l i + b * b := fun i => by ring
  simp only [this, Finset.sum_add_distrib, ← Finset.mul_sum, Finset.sum_const, Finset.card_univ, nsmul_eq_mul, hn]
  ring

/-- The variance of a family shifted by a constant, from its sum and its sum of squares. -/
theorem var_shift {c : ℝ} (hc : 0 < c) (hn : (Fintype.card ι : ℝ) = c) (l : ι → ℝ) (b : ℝ) :
    ((∑ i, l i * l i) + 2 * b * (∑ i, l i) + c * b * b) / c
      - mean c (fun i => l i + b) * mean c (fun i => l i + b) = var c (fun i => l i + b) := by
  rw [← var_eq hc hn, sq_shift hn]

/-- The variance of a shifted family, with every term divided by itself. -/
theorem var_shift' {c : ℝ} (hc : 0 < c) (hn : (Fintype.card ι : ℝ) = c) (l : ι → ℝ) (b : ℝ) :
    (∑ i, l i * l i) / c + 2 * b * (∑ i, l i) / c + b * b
      - mean c (fun i => l i + b) * mean c (fun i => l i + b) = var c (fun i => l i + b) := by
  rw [← var_shift hc hn]; field_simp

/-- A quadratic form of the Gram matrix is a sum of squares. -/
theorem gram_form {κ : Type*} [Fintype κ] (x : ι → κ → ℝ) (w : κ → ℝ) :
    ∑ l, w l * ∑ k, (∑ i, x i k * x i l) * w k = ∑ i, (∑ k, x i k * w k) * (∑ k, x i k * w k) := by
  have h1 : ∀ i, (∑ k, x i k * w k) * (∑ k, x i k * w k) = ∑ l, ∑ k, w l * (x i k * x i l * w k) := fun i => by
    rw [Finset.sum_mul_sum, Finset.sum_comm]
    exact Finset.sum_congr rfl fun l _ => Finset.sum_congr rfl fun k _ => by ring
  simp only [h1]
  rw [Finset.sum_comm]
  refine Finset.sum_congr rfl fun l _ => ?_
  rw [Finset.mul_sum, Finset.sum_comm]
  refine Finset.sum_congr rfl fun k _ => ?_
  rw [Finset.sum_mul, Finset.mul_sum]

/-- A linear form of the column sums is the sum of the linear forms. -/
theorem sum_form {κ : Type*} [Fintype κ] (x : ι → κ → ℝ) (w : κ → ℝ) :
    ∑ k, (∑ i, x i k) * w k = ∑ i, ∑ k, x i k * w k := by
  rw [Finset.sum_comm]
  exact Finset.sum_congr rfl fun k _ => Finset.sum_mul _ _ _

end stats

/-- The arguments as real arrays. -/
structure Args where
  feat : Fin 10000 → Fin 128 → ℝ
  coord : Fin 10000 → Fin 3 → ℝ
  nb : Fin 10000 → Fin 16 → Fin 10000
  Wq : Fin 128 → Fin 128 → ℝ
  bq : Fin 128 → ℝ
  gq : Fin 128 → ℝ
  betaq : Fin 128 → ℝ
  Wk : Fin 128 → Fin 128 → ℝ
  bk : Fin 128 → ℝ
  gk : Fin 128 → ℝ
  betak : Fin 128 → ℝ
  Wv : Fin 128 → Fin 128 → ℝ
  bv : Fin 128 → ℝ
  Wp1 : Fin 3 → Fin 128 → ℝ
  bp1 : Fin 128 → ℝ
  gp : Fin 128 → ℝ
  betap : Fin 128 → ℝ
  Wp2 : Fin 128 → Fin 128 → ℝ
  bp2 : Fin 128 → ℝ
  Ww1 : Fin 128 → Fin 8 → ℝ
  bw1 : Fin 8 → ℝ
  gw : Fin 8 → ℝ
  betaw : Fin 8 → ℝ
  Ww2 : Fin 8 → Fin 8 → ℝ
  bw2 : Fin 8 → ℝ

namespace Args
variable (A : Args)

/-- The query before its normalization, as one family per column. -/
def q0f (j : Fin 128) (n : Fin 10000) : ℝ := (∑ l, A.feat n l * A.Wq l j) + A.bq j
/-- The key before its normalization, as one family per column. -/
def k0f (j : Fin 128) (n : Fin 10000) : ℝ := (∑ l, A.feat n l * A.Wk l j) + A.bk j
/-- The value projection. -/
def v (n : Fin 10000) (j : Fin 128) : ℝ := (∑ l, A.feat n l * A.Wv l j) + A.bv j
/-- The query. -/
def q (n : Fin 10000) (j : Fin 128) : ℝ := max (bn 10000 (A.q0f j) (A.gq j) (A.betaq j) n) 0
/-- The key. -/
def k (n : Fin 10000) (j : Fin 128) : ℝ := max (bn 10000 (A.k0f j) (A.gk j) (A.betak j) n) 0
/-- The neighbour's position relative to the point. -/
def pos (n : Fin 10000) (s : Fin 16) (d : Fin 3) : ℝ := A.coord (A.nb n s) d - A.coord n d
/-- The position encoding's first layer without its offset. -/
def pl (n : Fin 10000) (s : Fin 16) (j : Fin 128) : ℝ := ∑ d, A.pos n s d * A.Wp1 d j
/-- The position encoding's first layer, as one family per column. -/
def p0f (j : Fin 128) (i : Fin 10000 × Fin 16) : ℝ := A.pl i.1 i.2 j + A.bp1 j
/-- The position encoding's hidden layer. -/
def h (n : Fin 10000) (s : Fin 16) (j : Fin 128) : ℝ := max (bn 160000 (A.p0f j) (A.gp j) (A.betap j) (n, s)) 0
/-- The position encoding. -/
def peb (n : Fin 10000) (s : Fin 16) (j : Fin 128) : ℝ := (∑ l, A.h n s l * A.Wp2 l j) + A.bp2 j
/-- The relation of a point to a neighbour. -/
def rel (n : Fin 10000) (s : Fin 16) (j : Fin 128) : ℝ := A.k (A.nb n s) j - A.q n j + A.peb n s j
/-- The weight network's first layer. -/
def r0 (n : Fin 10000) (s : Fin 16) (g : Fin 8) : ℝ := (∑ j, A.rel n s j * A.Ww1 j g) + A.bw1 g
/-- The weight network's first layer, as one family per group. -/
def r0f (g : Fin 8) (i : Fin 10000 × Fin 16) : ℝ := A.r0 i.1 i.2 g
/-- The weight network's hidden layer. -/
def w (n : Fin 10000) (s : Fin 16) (g : Fin 8) : ℝ := max (bn 160000 (A.r0f g) (A.gw g) (A.betaw g) (n, s)) 0
/-- The logits. -/
def lg (n : Fin 10000) (s : Fin 16) (g : Fin 8) : ℝ := (∑ l, A.w n s l * A.Ww2 l g) + A.bw2 g
/-- The greatest logit of a point and a group. -/
def mx (n : Fin 10000) (g : Fin 8) : ℝ := Finset.univ.sup' ⟨(0 : Fin 16), Finset.mem_univ _⟩ (fun s => A.lg n s g)
/-- The shifted exponential of a logit. -/
def ex (n : Fin 10000) (s : Fin 16) (g : Fin 8) : ℝ := Real.exp (A.lg n s g - A.mx n g)
/-- The softmax weight. -/
def sm (n : Fin 10000) (s : Fin 16) (g : Fin 8) : ℝ := A.ex n s g / ∑ t, A.ex n t g
/-- The group that a column belongs to. -/
def grp (j : Fin 128) : Fin 8 := ⟨j.val / 16, by omega⟩
/-- The result. -/
def out (n : Fin 10000) (j : Fin 128) : ℝ := ∑ s, (A.v (A.nb n s) j + A.peb n s j) * A.sm n s (grp j)

/-- The sum of the exponentials is not zero. -/
theorem ex_sum_ne (n : Fin 10000) (g : Fin 8) : (∑ t, A.ex n t g) ≠ 0 :=
  (Finset.sum_pos (fun t _ => Real.exp_pos _) ⟨(0 : Fin 16), Finset.mem_univ _⟩).ne'

/-- The number of points, and of pairs of a point and a neighbour. -/
theorem card1 : (Fintype.card (Fin 10000) : ℝ) = 10000 := by rw [Fintype.card_fin]; norm_num
/-- The number of pairs of a point and a neighbour. -/
theorem card2 : (Fintype.card (Fin 10000 × Fin 16) : ℝ) = 160000 := by
  rw [Fintype.card_prod, Fintype.card_fin, Fintype.card_fin]; norm_num

/-- The weight network's first layer, with its matrix moved into the terms of the relation. -/
theorem r0_split (n : Fin 10000) (s : Fin 16) (g : Fin 8) :
    (∑ j, A.k (A.nb n s) j * A.Ww1 j g) - (∑ j, A.q n j * A.Ww1 j g)
      + (∑ l, A.h n s l * ∑ j, A.Wp2 l j * A.Ww1 j g) + ((∑ j, A.bp2 j * A.Ww1 j g) + A.bw1 g) = A.r0 n s g := by
  unfold r0 rel peb
  have e : ∑ l, A.h n s l * ∑ j, A.Wp2 l j * A.Ww1 j g = ∑ j, (∑ l, A.h n s l * A.Wp2 l j) * A.Ww1 j g := by
    simp only [Finset.mul_sum, Finset.sum_mul]
    rw [Finset.sum_comm]
    exact Finset.sum_congr rfl fun j _ => Finset.sum_congr rfl fun l _ => by ring
  rw [e]
  have : ∀ j, (A.k (A.nb n s) j - A.q n j + ((∑ l, A.h n s l * A.Wp2 l j) + A.bp2 j)) * A.Ww1 j g
      = A.k (A.nb n s) j * A.Ww1 j g - A.q n j * A.Ww1 j g + (∑ l, A.h n s l * A.Wp2 l j) * A.Ww1 j g + A.bp2 j * A.Ww1 j g := fun j => by ring
  simp only [this, Finset.sum_add_distrib, Finset.sum_sub_distrib]
  ring

/-- The weighted sum, with the position encoding's last layer taken out of it. -/
theorem out_split (n : Fin 10000) (j : Fin 128) :
    ((∑ l, (∑ s, A.sm n s (grp j) * A.h n s l) * A.Wp2 l j) + (∑ s, A.sm n s (grp j)) * A.bp2 j)
      + (∑ s, A.v (A.nb n s) j * A.sm n s (grp j)) = A.out n j := by
  unfold out peb
  have e : ∑ l, (∑ s, A.sm n s (grp j) * A.h n s l) * A.Wp2 l j = ∑ s, (∑ l, A.h n s l * A.Wp2 l j) * A.sm n s (grp j) := by
    simp only [Finset.sum_mul]
    rw [Finset.sum_comm]
    exact Finset.sum_congr rfl fun s _ => Finset.sum_congr rfl fun l _ => by ring
  rw [e]
  have : ∀ s, (A.v (A.nb n s) j + ((∑ l, A.h n s l * A.Wp2 l j) + A.bp2 j)) * A.sm n s (grp j)
      = (∑ l, A.h n s l * A.Wp2 l j) * A.sm n s (grp j) + A.sm n s (grp j) * A.bp2 j + A.v (A.nb n s) j * A.sm n s (grp j) := fun s => by ring
  simp only [this, Finset.sum_add_distrib, Finset.sum_mul]

end Args

/-- A row among the 10000 real ones, as one of the 10240 padded ones. -/
def up (n : Fin 10000) : Fin 10240 := ⟨n.val, by omega⟩

/-- A sum over the padded rows, when the added rows give nothing. -/
theorem sum_pad {M : Type*} [AddCommMonoid M] (f : Fin 10240 → M) (h0 : ∀ n : Fin 10240, 10000 ≤ n.val → f n = 0) :
    ∑ n, f n = ∑ n : Fin 10000, f (up n) := by
  refine (Fin.sum_univ_add (a := 10000) (b := 240) f).trans ?_
  rw [Finset.sum_eq_zero (f := fun i : Fin 240 => f (Fin.natAdd 10000 i)) fun i _ => h0 _ (by simp), add_zero]
  rfl

namespace Args
variable (A : Args)

/-- The point that a padded row stands for: its own, or the first one beyond the end. -/
def lo (r : Fin 10240) : Fin 10000 := if h : r.val < 10000 then ⟨r.val, h⟩ else 0

/-- The neighbour that a padded row names: its own, or, beyond the real rows, the first point. -/
def nb5 (r : Fin 10240) (s : Fin 16) : Fin 10000 := if h : r.val < 10000 then A.nb ⟨r.val, h⟩ s else 0

/-- The relative position in the padded rows. -/
def pos5 (r : Fin 10240) (s : Fin 16) (d : Fin 3) : ℝ := A.coord (A.nb5 r s) d - A.coord (lo r) d

/-- A real row stands for itself. -/
theorem lo_up (n : Fin 10000) : lo (up n) = n := by
  exact dif_pos (show (up n).val < 10000 from n.isLt)
/-- A real row names its own neighbours. -/
theorem nb5_up (n : Fin 10000) (s : Fin 16) : A.nb5 (up n) s = A.nb n s := by
  exact dif_pos (show (up n).val < 10000 from n.isLt)
/-- A real row has its own relative positions. -/
theorem pos5_up (n : Fin 10000) (s : Fin 16) (d : Fin 3) : A.pos5 (up n) s d = A.pos n s d := by
  unfold pos5 pos; rw [lo_up, nb5_up]
/-- An added row has relative positions zero. -/
theorem pos5_pad (r : Fin 10240) (hr : 10000 ≤ r.val) (s : Fin 16) (d : Fin 3) : A.pos5 r s d = 0 := by
  unfold pos5 nb5 lo; rw [dif_neg (by omega), dif_neg (by omega), sub_self]

/-- The sum of the relative positions over the padded rows. -/
theorem pos_sum (d : Fin 3) : ∑ r, ∑ s, A.pos5 r s d = ∑ i : Fin 10000 × Fin 16, A.pos i.1 i.2 d := by
  rw [sum_pad _ fun r hr => Finset.sum_eq_zero fun s _ => A.pos5_pad r hr s d, Fintype.sum_prod_type]
  simp only [pos5_up]

/-- The products of the relative positions, summed over the padded rows. -/
theorem pos_gram (d e : Fin 3) : ∑ r, ∑ s, A.pos5 r s d * A.pos5 r s e = ∑ i : Fin 10000 × Fin 16, A.pos i.1 i.2 d * A.pos i.1 i.2 e := by
  rw [sum_pad _ fun r hr => Finset.sum_eq_zero fun s _ => by rw [A.pos5_pad r hr s d, zero_mul], Fintype.sum_prod_type]
  simp only [pos5_up]

end Args

/-- A normalization folded into the matrix and the offset of the layer before it. -/
theorem bn_mix {ι κ : Type*} [Fintype ι] [Fintype κ] (c : ℝ) (x : ι → κ → ℝ) (w : κ → ℝ) (b g e : ℝ) (i : ι) :
    (∑ k, x i k * (w k * scl c (fun i => (∑ k, x i k * w k) + b) g))
      + (b * scl c (fun i => (∑ k, x i k * w k) + b) g + (e - mean c (fun i => (∑ k, x i k * w k) + b) * scl c (fun i => (∑ k, x i k * w k) + b) g))
      = bn c (fun i => (∑ k, x i k * w k) + b) g e i := by
  rw [← bn_fold]
  simp only [← mul_assoc, ← Finset.sum_mul]
  ring

end Cert.Model
end
-- ==== Proof.Pre.lean ====
/-
  What the precondition says: every float argument is an array of real numbers, and every index names a point.
-/
module

public import proofs.«01_k».proof.Pre_finite_and_in_range
public import proofs.«01_k».proof.Proof.Math
public import Idealize.ShloMosaic.Lib.ReduceAll
public import Idealize.ShloMosaic.Lib.StableHlo.Predicate
public import Idealize.ShloMosaic.Lib.Pipeline.ValueKit

@[expose] public section

set_option maxRecDepth 16384

noncomputable section
namespace Cert.Model
open Idealize.ShloMosaic Cert.Pre_finite_and_in_range

/-- The arrays hold the real arguments `A`. -/
structure Rep (A : Args)
    (a0 : FVec Ideal S10000x128 .f32) (a1 : FVec Ideal S10000x3 .f32) (a2 : IVec S10000x16 32) (a3 : FVec Ideal S128x128 .f32)
    (a4 : FVec Ideal S128 .f32) (a5 : FVec Ideal S128 .f32) (a6 : FVec Ideal S128 .f32) (a7 : FVec Ideal S128x128 .f32)
    (a8 : FVec Ideal S128 .f32) (a9 : FVec Ideal S128 .f32) (a10 : FVec Ideal S128 .f32) (a11 : FVec Ideal S128x128 .f32)
    (a12 : FVec Ideal S128 .f32) (a13 : FVec Ideal S3x128 .f32) (a14 : FVec Ideal S128 .f32) (a15 : FVec Ideal S128 .f32)
    (a16 : FVec Ideal S128 .f32) (a17 : FVec Ideal S128x128 .f32) (a18 : FVec Ideal S128 .f32) (a19 : FVec Ideal S128x8 .f32)
    (a20 : FVec Ideal S8 .f32) (a21 : FVec Ideal S8 .f32) (a22 : FVec Ideal S8 .f32) (a23 : FVec Ideal S8x8 .f32)
    (a24 : FVec Ideal S8 .f32) : Prop where
  feat : ∀ i j, a0 (ix2 i j) = ((A.feat i j : ℝ) : EReal)
  coord : ∀ i j, a1 (ix2 i j) = ((A.coord i j : ℝ) : EReal)
  nb : ∀ n s, a2 (ix2 n s) = BitVec.ofNat 32 (A.nb n s).val
  Wq : ∀ i j, a3 (ix2 i j) = ((A.Wq i j : ℝ) : EReal)
  bq : ∀ i, a4 (ix1 i) = ((A.bq i : ℝ) : EReal)
  gq : ∀ i, a5 (ix1 i) = ((A.gq i : ℝ) : EReal)
  betaq : ∀ i, a6 (ix1 i) = ((A.betaq i : ℝ) : EReal)
  Wk : ∀ i j, a7 (ix2 i j) = ((A.Wk i j : ℝ) : EReal)
  bk : ∀ i, a8 (ix1 i) = ((A.bk i : ℝ) : EReal)
  gk : ∀ i, a9 (ix1 i) = ((A.gk i : ℝ) : EReal)
  betak : ∀ i, a10 (ix1 i) = ((A.betak i : ℝ) : EReal)
  Wv : ∀ i j, a11 (ix2 i j) = ((A.Wv i j : ℝ) : EReal)
  bv : ∀ i, a12 (ix1 i) = ((A.bv i : ℝ) : EReal)
  Wp1 : ∀ i j, a13 (ix2 i j) = ((A.Wp1 i j : ℝ) : EReal)
  bp1 : ∀ i, a14 (ix1 i) = ((A.bp1 i : ℝ) : EReal)
  gp : ∀ i, a15 (ix1 i) = ((A.gp i : ℝ) : EReal)
  betap : ∀ i, a16 (ix1 i) = ((A.betap i : ℝ) : EReal)
  Wp2 : ∀ i j, a17 (ix2 i j) = ((A.Wp2 i j : ℝ) : EReal)
  bp2 : ∀ i, a18 (ix1 i) = ((A.bp2 i : ℝ) : EReal)
  Ww1 : ∀ i j, a19 (ix2 i j) = ((A.Ww1 i j : ℝ) : EReal)
  bw1 : ∀ i, a20 (ix1 i) = ((A.bw1 i : ℝ) : EReal)
  gw : ∀ i, a21 (ix1 i) = ((A.gw i : ℝ) : EReal)
  betaw : ∀ i, a22 (ix1 i) = ((A.betaw i : ℝ) : EReal)
  Ww2 : ∀ i j, a23 (ix2 i j) = ((A.Ww2 i j : ℝ) : EReal)
  bw2 : ∀ i, a24 (ix1 i) = ((A.bw2 i : ℝ) : EReal)

/-- The real arguments that the arrays hold. -/
def argsOf
    (a0 : FVec Ideal S10000x128 .f32) (a1 : FVec Ideal S10000x3 .f32) (a2 : IVec S10000x16 32) (a3 : FVec Ideal S128x128 .f32)
    (a4 : FVec Ideal S128 .f32) (a5 : FVec Ideal S128 .f32) (a6 : FVec Ideal S128 .f32) (a7 : FVec Ideal S128x128 .f32)
    (a8 : FVec Ideal S128 .f32) (a9 : FVec Ideal S128 .f32) (a10 : FVec Ideal S128 .f32) (a11 : FVec Ideal S128x128 .f32)
    (a12 : FVec Ideal S128 .f32) (a13 : FVec Ideal S3x128 .f32) (a14 : FVec Ideal S128 .f32) (a15 : FVec Ideal S128 .f32)
    (a16 : FVec Ideal S128 .f32) (a17 : FVec Ideal S128x128 .f32) (a18 : FVec Ideal S128 .f32) (a19 : FVec Ideal S128x8 .f32)
    (a20 : FVec Ideal S8 .f32) (a21 : FVec Ideal S8 .f32) (a22 : FVec Ideal S8 .f32) (a23 : FVec Ideal S8x8 .f32)
    (a24 : FVec Ideal S8 .f32) : Args where
  feat i j := (a0 (ix2 i j)).toReal
  coord i j := (a1 (ix2 i j)).toReal
  nb n s := ⟨min (a2 (ix2 n s)).toNat 9999, by omega⟩
  Wq i j := (a3 (ix2 i j)).toReal
  bq i := (a4 (ix1 i)).toReal
  gq i := (a5 (ix1 i)).toReal
  betaq i := (a6 (ix1 i)).toReal
  Wk i j := (a7 (ix2 i j)).toReal
  bk i := (a8 (ix1 i)).toReal
  gk i := (a9 (ix1 i)).toReal
  betak i := (a10 (ix1 i)).toReal
  Wv i j := (a11 (ix2 i j)).toReal
  bv i := (a12 (ix1 i)).toReal
  Wp1 i j := (a13 (ix2 i j)).toReal
  bp1 i := (a14 (ix1 i)).toReal
  gp i := (a15 (ix1 i)).toReal
  betap i := (a16 (ix1 i)).toReal
  Wp2 i j := (a17 (ix2 i j)).toReal
  bp2 i := (a18 (ix1 i)).toReal
  Ww1 i j := (a19 (ix2 i j)).toReal
  bw1 i := (a20 (ix1 i)).toReal
  gw i := (a21 (ix1 i)).toReal
  betaw i := (a22 (ix1 i)).toReal
  Ww2 i j := (a23 (ix2 i j)).toReal
  bw2 i := (a24 (ix1 i)).toReal

/-- An array whose entries all pass the finiteness test holds real numbers. -/
theorem real_of_all {s : Shape} (x : FVec Ideal s .f32) {axes : List (Fin s.rank)} (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : x i = ((x i).toReal : EReal) := by
  haveI : Subsingleton S_.Idx := ⟨fun a b => funext fun k => k.elim0⟩
  have e := Host.reduce_andi_all _ _ hr hu j h i
  pointwise at e
  rw [Cert.Reads.c_top] at e
  have e2 : max (x i) (-(x i)) < ⊤ := of_decide_eq_true ((StableHlo.Predicate.ofBool_eq_one_iff _).mp e)
  exact (EReal.coe_toReal (fun ht => by rw [ht] at e2; simp at e2) (fun hb => by rw [hb] at e2; simp at e2)).symm

/-- An index array that passes the range test names points. -/
theorem idx_of_all (x : IVec S10000x16 32) (hb : S_.BroadcastsInDim S10000x16 (![] : Fin 0 → Fin S10000x16.rank)) (hr : S10000x16.ReducesTo [0, 1] S_) (hu : 0 < S_.numel) (j : S_.Idx)
    (h : Host.reduce IntOp.andi (andi (cmpi .sge x (broadcastInDim S10000x16 ![] hb (constantI S_ 32 0#32))) (cmpi .slt x (broadcastInDim S10000x16 ![] hb (constantI S_ 32 10000#32)))) (constantI S_ 1 1#1) hr hu j = 1#1)
    (n : Fin 10000) (s : Fin 16) : x (ix2 n s) = BitVec.ofNat 32 (min (x (ix2 n s)).toNat 9999) := by
  haveI : Subsingleton S_.Idx := ⟨fun a b => funext fun k => k.elim0⟩
  have e := Host.reduce_andi_all _ _ hr hu j h (ix2 n s)
  pointwise at e
  have e1 := IntOp.andi_eq_one.mp e
  have l1 := IntOp.cmpi_sge.mp e1.1
  have l2 := IntOp.cmpi_slt.mp e1.2
  have z : (0#32 : BitVec 32).toInt = 0 := by decide
  have z2 : (10000#32 : BitVec 32).toInt = 10000 := by decide
  rw [z] at l1
  rw [z2] at l2
  have l3 : (x (ix2 n s)).toNat < 10000 := by
    have := BitVec.toInt_eq_toNat_cond (x (ix2 n s))
    split at this <;> omega
  rw [Nat.min_eq_left (by omega), BitVec.ofNat_toNat, BitVec.setWidth_eq]

/-- The arguments of a run that meets the precondition. -/
theorem rep_of_pre [Facts]
    (a0 : FVec Ideal S10000x128 .f32) (a1 : FVec Ideal S10000x3 .f32) (a2 : IVec S10000x16 32) (a3 : FVec Ideal S128x128 .f32)
    (a4 : FVec Ideal S128 .f32) (a5 : FVec Ideal S128 .f32) (a6 : FVec Ideal S128 .f32) (a7 : FVec Ideal S128x128 .f32)
    (a8 : FVec Ideal S128 .f32) (a9 : FVec Ideal S128 .f32) (a10 : FVec Ideal S128 .f32) (a11 : FVec Ideal S128x128 .f32)
    (a12 : FVec Ideal S128 .f32) (a13 : FVec Ideal S3x128 .f32) (a14 : FVec Ideal S128 .f32) (a15 : FVec Ideal S128 .f32)
    (a16 : FVec Ideal S128 .f32) (a17 : FVec Ideal S128x128 .f32) (a18 : FVec Ideal S128 .f32) (a19 : FVec Ideal S128x8 .f32)
    (a20 : FVec Ideal S8 .f32) (a21 : FVec Ideal S8 .f32) (a22 : FVec Ideal S8 .f32) (a23 : FVec Ideal S8x8 .f32)
    (a24 : FVec Ideal S8 .f32)
    (h : fn (F := Ideal) a0 a1 a2 a3 a4 a5 a6 a7 a8 a9 a10 a11 a12 a13 a14 a15 a16 a17 a18 a19 a20 a21 a22 a23 a24 = fun _ => 1#1) :
    Rep (argsOf a0 a1 a2 a3 a4 a5 a6 a7 a8 a9 a10 a11 a12 a13 a14 a15 a16 a17 a18 a19 a20 a21 a22 a23 a24) a0 a1 a2 a3 a4 a5 a6 a7 a8 a9 a10 a11 a12 a13 a14 a15 a16 a17 a18 a19 a20 a21 a22 a23 a24 := by
  have e := congrFun h (fun k => k.elim0)
  simp only [fn, fn_part1, fn_part2, fn_part3, fn_part4, fn_part5, fn_part6, fn_part7, andi_apply, IntOp.andi_eq_one] at e
  obtain ⟨⟨⟨⟨⟨⟨⟨⟨⟨⟨⟨⟨⟨⟨⟨⟨⟨⟨⟨⟨⟨⟨⟨⟨h2, h0⟩, h1⟩, h3⟩, h4⟩, h5⟩, h6⟩, h7⟩, h8⟩, h9⟩, h10⟩, h11⟩, h12⟩, h13⟩, h14⟩, h15⟩, h16⟩, h17⟩, h18⟩, h19⟩, h20⟩, h21⟩, h22⟩, h23⟩, h24⟩ := e
  exact {
    feat := fun i j => real_of_all a0 _ _ _ _ h0 (ix2 i j)
    coord := fun i j => real_of_all a1 _ _ _ _ h1 (ix2 i j)
    nb := fun n s => idx_of_all a2 _ _ _ _ h2 n s
    Wq := fun i j => real_of_all a3 _ _ _ _ h3 (ix2 i j)
    bq := fun i => real_of_all a4 _ _ _ _ h4 (ix1 i)
    gq := fun i => real_of_all a5 _ _ _ _ h5 (ix1 i)
    betaq := fun i => real_of_all a6 _ _ _ _ h6 (ix1 i)
    Wk := fun i j => real_of_all a7 _ _ _ _ h7 (ix2 i j)
    bk := fun i => real_of_all a8 _ _ _ _ h8 (ix1 i)
    gk := fun i => real_of_all a9 _ _ _ _ h9 (ix1 i)
    betak := fun i => real_of_all a10 _ _ _ _ h10 (ix1 i)
    Wv := fun i j => real_of_all a11 _ _ _ _ h11 (ix2 i j)
    bv := fun i => real_of_all a12 _ _ _ _ h12 (ix1 i)
    Wp1 := fun i j => real_of_all a13 _ _ _ _ h13 (ix2 i j)
    bp1 := fun i => real_of_all a14 _ _ _ _ h14 (ix1 i)
    gp := fun i => real_of_all a15 _ _ _ _ h15 (ix1 i)
    betap := fun i => real_of_all a16 _ _ _ _ h16 (ix1 i)
    Wp2 := fun i j => real_of_all a17 _ _ _ _ h17 (ix2 i j)
    bp2 := fun i => real_of_all a18 _ _ _ _ h18 (ix1 i)
    Ww1 := fun i j => real_of_all a19 _ _ _ _ h19 (ix2 i j)
    bw1 := fun i => real_of_all a20 _ _ _ _ h20 (ix1 i)
    gw := fun i => real_of_all a21 _ _ _ _ h21 (ix1 i)
    betaw := fun i => real_of_all a22 _ _ _ _ h22 (ix1 i)
    Ww2 := fun i j => real_of_all a23 _ _ _ _ h23 (ix2 i j)
    bw2 := fun i => real_of_all a24 _ _ _ _ h24 (ix1 i) }

end Cert.Model
end
-- ==== Proof.Coe.lean ====
/-
  The statistics and normalizations of the model, read off terms over the extended reals whose leaves are reals.
-/
module

public import proofs.«01_k».proof.Proof.Math
public import Idealize.ShloMosaic.Lib.StableHlo.Predicate

@[expose] public section

noncomputable section
namespace Cert.Model
open Idealize.ShloMosaic Cert.Reads

/-- The mean of a real family. -/
theorem coe_mean {ι : Type*} [Fintype ι] {c : ℝ} (hc : 0 < c) (y : ι → ℝ) :
    Ideal.div (∑ i, ((y i : ℝ) : EReal)) (c : EReal) = ((mean c y : ℝ) : EReal) := by
  rw [coe_sum, div_real _ _ hc.ne']; rfl

/-- The mean of a real family over pairs. -/
theorem coe_mean2 {a b : ℕ} {c : ℝ} (hc : 0 < c) (y : Fin a × Fin b → ℝ) :
    Ideal.div (∑ n, ∑ s, ((y (n, s) : ℝ) : EReal)) (c : EReal) = ((mean c y : ℝ) : EReal) := by
  simp only [coe_sum]
  rw [div_real _ _ hc.ne', mean, Fintype.sum_prod_type]

/-- The variance of a real family. -/
theorem coe_var {ι : Type*} [Fintype ι] {c : ℝ} (hc : 0 < c) (y : ι → ℝ) :
    Ideal.div (∑ i, ((y i - mean c y : ℝ) : EReal) * ((y i - mean c y : ℝ) : EReal)) (c : EReal) = ((var c y : ℝ) : EReal) := by
  simp only [← EReal.coe_mul]
  rw [coe_sum, div_real _ _ hc.ne']; rfl

/-- The variance of a real family over pairs. -/
theorem coe_var2 {a b : ℕ} {c : ℝ} (hc : 0 < c) (y : Fin a × Fin b → ℝ) :
    Ideal.div (∑ n, ∑ s, ((y (n, s) - mean c y : ℝ) : EReal) * ((y (n, s) - mean c y : ℝ) : EReal)) (c : EReal) = ((var c y : ℝ) : EReal) := by
  simp only [← EReal.coe_mul, coe_sum]
  rw [div_real _ _ hc.ne', var, Fintype.sum_prod_type]

/-- The divisor of a normalization. -/
theorem coe_dev {ι : Type*} [Fintype ι] {c : ℝ} (hc : 0 < c) (y : ι → ℝ) :
    Ideal.sqrt (((var c y : ℝ) : EReal) + ((eps : ℝ) : EReal)) = ((dev c y : ℝ) : EReal) := by
  rw [← EReal.coe_add, sqrt_real _ (var_eps_pos hc y).le]; rfl

/-- The factor of a folded normalization. -/
theorem coe_scl {ι : Type*} [Fintype ι] {c : ℝ} (hc : 0 < c) (y : ι → ℝ) (g : ℝ) :
    Ideal.div (g : EReal) ((dev c y : ℝ) : EReal) = ((scl c y g : ℝ) : EReal) := by
  rw [div_real _ _ (dev_ne hc y)]; rfl

/-- The normalized family after its rectifier. -/
theorem coe_norm {ι : Type*} [Fintype ι] {c : ℝ} (hc : 0 < c) (y : ι → ℝ) (g b : ℝ) (i : ι) :
    max (Ideal.div (((y i : ℝ) : EReal) - ((mean c y : ℝ) : EReal)) ((dev c y : ℝ) : EReal) * (g : EReal) + (b : EReal)) 0
      = ((max (bn c y g b i) 0 : ℝ) : EReal) := by
  rw [← EReal.coe_sub, div_real _ _ (dev_ne hc y), ← EReal.coe_mul, ← EReal.coe_add, ← EReal.coe_zero, max_real]; rfl

/-- The number of points, and of pairs of a point and a neighbour, is positive. -/
theorem pos_1e4 : (0 : EReal) < ((10000 : ℝ) : EReal) := EReal.coe_pos.mpr (by norm_num)
/-- The number of pairs is positive. -/
theorem pos_16e4 : (0 : EReal) < ((160000 : ℝ) : EReal) := EReal.coe_pos.mpr (by norm_num)

/-- The word 0 is the number 0. -/
theorem word_zero : (FloatOps.sitofp (F := Ideal) FTy.f32 (0#32 : BitVec 32)) = 0 := by
  show (((0#32 : BitVec 32).toInt : ℝ) : EReal) = 0
  simp

/-- A point's number is not negative, so that it is taken as it stands. -/
theorem wrap_word (k : ℕ) (hk : k < 10240) (a : BitVec 32) :
    Scalar.select (IntOp.cmpi .slt (BitVec.ofNat 32 k) 0#32) a (BitVec.ofNat 32 k) = BitVec.ofNat 32 k := by
  unfold Scalar.select
  rw [if_neg]
  intro e
  have := (StableHlo.Predicate.slt_ofNat_iff k 0 (by omega) (by norm_num)).mp e
  omega

/-- A point's number read as a row. -/
theorem word_row (k N : ℕ) (hk : k < N) (hN : N ≤ 10240) : min (BitVec.ofNat 32 k).toInt.toNat (N - 1) = k := by
  rw [StableHlo.Predicate.toInt_ofNat_small k (by omega)]
  omega

/-- The sign of a point's number and one more is 1. -/
theorem word_sign (k : ℕ) (hk : k < 10000) :
    (if IntOp.addi (BitVec.ofNat 32 k) 1#32 = 0 then (0 : BitVec 32) else if (IntOp.addi (BitVec.ofNat 32 k) 1#32).msb then -1 else 1) = 1#32 := by
  have e : IntOp.addi (BitVec.ofNat 32 k) 1#32 = BitVec.ofNat 32 (k + 1) := by
    apply BitVec.eq_of_toNat_eq
    simp [IntOp.addi, BitVec.toNat_add, BitVec.toNat_ofNat]
  rw [e, if_neg, if_neg]
  · rfl
  · rw [BitVec.msb_eq_false_iff_two_mul_lt.mpr (by simp [BitVec.toNat_ofNat]; omega)]
    decide
  · intro h
    have := congrArg BitVec.toNat h
    simp [BitVec.toNat_ofNat] at this
    omega

/-- The word 1 is the number 1. -/
theorem word_one : (FloatOps.sitofp (F := Ideal) FTy.f32 (1#32 : BitVec 32)) = 1 := by
  show (((1#32 : BitVec 32).toInt : ℝ) : EReal) = 1
  simp

section fold
variable {ι κ : Type*} [Fintype ι] [Fintype κ]

/-- A linear form of real column sums. -/
theorem coe_sum_form (x : ι → κ → ℝ) (w : κ → ℝ) :
    ∑ k, ((∑ i, x i k : ℝ) : EReal) * ((w k : ℝ) : EReal) = ((∑ i, ∑ k, x i k * w k : ℝ) : EReal) := by
  simp only [← EReal.coe_mul]
  rw [coe_sum, sum_form]

/-- A quadratic form of a real Gram matrix. -/
theorem coe_gram (x : ι → κ → ℝ) (w : κ → ℝ) :
    ∑ l, ((w l : ℝ) : EReal) * ∑ k, ((∑ i, x i k * x i l : ℝ) : EReal) * ((w k : ℝ) : EReal)
      = ((∑ i, (∑ k, x i k * w k) * (∑ k, x i k * w k) : ℝ) : EReal) := by
  simp only [← EReal.coe_mul, coe_sum]
  rw [gram_form]

/-- The mean of a shifted family, with the shift added under the division. -/
theorem coe_mean_shift {c : ℝ} (hc : 0 < c) (hn : (Fintype.card ι : ℝ) = c) (l : ι → ℝ) (b : ℝ) :
    Ideal.div (((∑ i, l i : ℝ) : EReal) + (c : EReal) * (b : EReal)) (c : EReal) = ((mean c (fun i => l i + b) : ℝ) : EReal) := by
  rw [← EReal.coe_mul, ← EReal.coe_add, div_real _ _ hc.ne', mean_shift hc hn]

/-- The mean of a shifted family, with the shift added after the division. -/
theorem coe_mean_shift' {c : ℝ} (hc : 0 < c) (hn : (Fintype.card ι : ℝ) = c) (l : ι → ℝ) (b : ℝ) :
    Ideal.div ((∑ i, l i : ℝ) : EReal) (c : EReal) + (b : EReal) = ((mean c (fun i => l i + b) : ℝ) : EReal) := by
  rw [div_real _ _ hc.ne', ← EReal.coe_add, mean_shift' hc hn]

/-- The variance of a shifted family from its sum and its sum of squares, under one division. -/
theorem coe_var_shift {c : ℝ} (hc : 0 < c) (hn : (Fintype.card ι : ℝ) = c) (l : ι → ℝ) (b : ℝ) :
    Ideal.div (((∑ i, l i * l i : ℝ) : EReal) + ((2 : ℝ) : EReal) * (b : EReal) * ((∑ i, l i : ℝ) : EReal) + (c : EReal) * (b : EReal) * (b : EReal)) (c : EReal)
      - ((mean c (fun i => l i + b) : ℝ) : EReal) * ((mean c (fun i => l i + b) : ℝ) : EReal) = ((var c (fun i => l i + b) : ℝ) : EReal) := by
  simp only [← EReal.coe_mul, ← EReal.coe_add]
  rw [div_real _ _ hc.ne', ← EReal.coe_sub, var_shift hc hn]

/-- The same with every term divided by itself. -/
theorem coe_var_shift' {c : ℝ} (hc : 0 < c) (hn : (Fintype.card ι : ℝ) = c) (l : ι → ℝ) (b : ℝ) :
    Ideal.div ((∑ i, l i * l i : ℝ) : EReal) (c : EReal) + Ideal.div (((2 : ℝ) : EReal) * (b : EReal) * ((∑ i, l i : ℝ) : EReal)) (c : EReal) + (b : EReal) * (b : EReal)
      - ((mean c (fun i => l i + b) : ℝ) : EReal) * ((mean c (fun i => l i + b) : ℝ) : EReal) = ((var c (fun i => l i + b) : ℝ) : EReal) := by
  simp only [← EReal.coe_mul]
  rw [div_real _ _ hc.ne', div_real _ _ hc.ne', ← EReal.coe_add, ← EReal.coe_add, ← EReal.coe_sub, var_shift' hc hn]

/-- The mean and the variance of a real family from its sum and its sum of squares. -/
theorem coe_mean_r {c : ℝ} (hc : 0 < c) (y : ι → ℝ) : Ideal.div ((∑ i, y i : ℝ) : EReal) (c : EReal) = ((mean c y : ℝ) : EReal) := by
  rw [div_real _ _ hc.ne']; rfl
/-- The variance of a real family from its sum of squares and its mean. -/
theorem coe_var_r {c : ℝ} (hc : 0 < c) (hn : (Fintype.card ι : ℝ) = c) (y : ι → ℝ) :
    Ideal.div ((∑ i, y i * y i : ℝ) : EReal) (c : EReal) - ((mean c y : ℝ) : EReal) * ((mean c y : ℝ) : EReal) = ((var c y : ℝ) : EReal) := by
  rw [div_real _ _ hc.ne', ← EReal.coe_mul, ← EReal.coe_sub, var_eq hc hn]

end fold

/-- The sums of the relative positions over the padded rows. -/
theorem coe_pos_sum (A : Args) (d : Fin 3) : ∑ r, ∑ s, ((A.pos5 r s d : ℝ) : EReal) = ((∑ i : Fin 10000 × Fin 16, A.pos i.1 i.2 d : ℝ) : EReal) := by
  simp only [coe_sum]; rw [A.pos_sum]
/-- The products of the relative positions, summed over the padded rows. -/
theorem coe_pos_gram (A : Args) (d e : Fin 3) :
    ∑ r, ∑ s, ((A.pos5 r s d : ℝ) : EReal) * ((A.pos5 r s e : ℝ) : EReal) = ((∑ i : Fin 10000 × Fin 16, A.pos i.1 i.2 d * A.pos i.1 i.2 e : ℝ) : EReal) := by
  simp only [← EReal.coe_mul, coe_sum]; rw [A.pos_gram]

end Cert.Model
end
-- ==== Proof.RefValue.lean ====
/-
  What the reference's named intermediate arrays hold, over the real numbers.
-/
module

public import proofs.«01_k».proof.Proof.Gen.ReferenceIdeal.Run
public import proofs.«01_k».proof.Proof.Pre
public import proofs.«01_k».proof.Proof.Coe
public import Idealize.ShloMosaic.Lib.Tactic.CleanTypes
public import Idealize.ShloMosaic.Lib.Pipeline.ValueKit

@[expose] public section

set_option maxRecDepth 16384

noncomputable section
open Idealize.ShloMosaic Idealize.ShloMosaic.TcCoe Idealize.SL.Sem
namespace Cert.ReferenceIdeal.Value
open Cert.ReferenceIdeal Cert.ReferenceIdeal.Gen Cert.Model Cert.Reads

/-- The arguments of the reference hold the real arguments `A`. -/
abbrev RepV (A : Args) (V : Valuation τ sig (Elt Ideal)) : Prop :=
  Rep A (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))

variable {A : Args} {V : Valuation τ sig (Elt Ideal)} (h : RepV A V)
include h

/-- The row that the reference takes for a neighbour. -/
theorem ref_idx (n : Fin 10000) (s : Fin 16) : (broadcastInDim S10000x16x1 ![0, 1] bcast_S10000x16_S10000x16x1_0_1 (select (cmpi .slt (V (Proc.devRef .tc main_arg2)) (broadcastInDim S10000x16 ![] bcast_S_S10000x16 (constantI S_ 32 0#32))) (addi (V (Proc.devRef .tc main_arg2)) (broadcastInDim S10000x16 ![] bcast_S_S10000x16 (constantI S_ 32 10000#32))) (V (Proc.devRef .tc main_arg2)))) (ix3 n s (0 : Fin 1)) = BitVec.ofNat 32 (A.nb n s).val := by
  clean_types
  pointwise
  rw [h.nb]
  exact wrap_word _ (by omega) _

/-- Rows of three taken at the neighbours. -/
theorem ref_take3 (x : FVec Ideal S10000x3 .f32) (n : Fin 10000) (s : Fin 16) (d : Fin 3) :
    Host.gather gather_S10000x3_S10000x16x1_S10000x16x3_2_0_n_n_0_2_13 x (broadcastInDim S10000x16x1 ![0, 1] bcast_S10000x16_S10000x16x1_0_1 (select (cmpi .slt (V (Proc.devRef .tc main_arg2)) (broadcastInDim S10000x16 ![] bcast_S_S10000x16 (constantI S_ 32 0#32))) (addi (V (Proc.devRef .tc main_arg2)) (broadcastInDim S10000x16 ![] bcast_S_S10000x16 (constantI S_ 32 10000#32))) (V (Proc.devRef .tc main_arg2)))) (ix3 n s d) = x (ix2 (A.nb n s) d) := by
  refine (gather_rows (by norm_num) _ x _ n s d).trans ?_
  refine congrArg (fun r => x (ix2 r d)) (Fin.ext ?_)
  show min _ _ = _
  rw [ref_idx h]
  exact word_row _ _ (A.nb n s).isLt (by norm_num)

/-- Rows of 128 taken at the neighbours. -/
theorem ref_take128 (x : FVec Ideal S10000x128 .f32) (n : Fin 10000) (s : Fin 16) (d : Fin 128) :
    Host.gather gather_S10000x128_S10000x16x1_S10000x16x128_2_0_n_n_0_2_1128 x (broadcastInDim S10000x16x1 ![0, 1] bcast_S10000x16_S10000x16x1_0_1 (select (cmpi .slt (V (Proc.devRef .tc main_arg2)) (broadcastInDim S10000x16 ![] bcast_S_S10000x16 (constantI S_ 32 0#32))) (addi (V (Proc.devRef .tc main_arg2)) (broadcastInDim S10000x16 ![] bcast_S_S10000x16 (constantI S_ 32 10000#32))) (V (Proc.devRef .tc main_arg2)))) (ix3 n s d) = x (ix2 (A.nb n s) d) := by
  refine (gather_rows (by norm_num) _ x _ n s d).trans ?_
  refine congrArg (fun r => x (ix2 r d)) (Fin.ext ?_)
  show min _ _ = _
  rw [ref_idx h]
  exact word_row _ _ (A.nb n s).isLt (by norm_num)

/-- The query before its normalization. -/
theorem ref_q0 (i : Fin 10000) (j : Fin 128) : (res_main_v3 V : FVec Ideal S10000x128 .f32) (ix2 i j) = ((A.q0f j i : ℝ) : EReal) := by
  unfold res_main_v3
  clean_types
  pointwise
  simp only [h.feat, h.Wq, h.bq, ← EReal.coe_mul, ← EReal.coe_add, coe_sum]
  rfl

/-- The query's deviation from its mean. -/
theorem ref_q5 (i : Fin 10000) (j : Fin 128) : (res_main_call0_v5 V : FVec Ideal S10000x128 .f32) (ix2 i j) = ((A.q0f j i - mean 10000 (A.q0f j) : ℝ) : EReal) := by
  unfold res_main_call0_v5
  clean_types
  pointwise
  simp only [ref_q0 h]
  rw [c_1e4, coe_mean (by norm_num), EReal.coe_sub]

omit h in
/-- The query's number of rows. -/
theorem ref_q8 : (res_main_call0_v8 V : FVec Ideal S_ .f32) ix0 = ((10000 : ℝ) : EReal) := by
  unfold res_main_call0_v8
  clean_types
  pointwise
  rw [c_1e4, word_zero, sub_zero]

/-- The key before its normalization. -/
theorem ref_k0 (i : Fin 10000) (j : Fin 128) : (res_main_v26 V : FVec Ideal S10000x128 .f32) (ix2 i j) = ((A.k0f j i : ℝ) : EReal) := by
  unfold res_main_v26
  clean_types
  pointwise
  simp only [h.feat, h.Wk, h.bk, ← EReal.coe_mul, ← EReal.coe_add, coe_sum]
  rfl

/-- The key's deviation from its mean. -/
theorem ref_k5 (i : Fin 10000) (j : Fin 128) : (res_main_call2_v5 V : FVec Ideal S10000x128 .f32) (ix2 i j) = ((A.k0f j i - mean 10000 (A.k0f j) : ℝ) : EReal) := by
  unfold res_main_call2_v5
  clean_types
  pointwise
  simp only [ref_k0 h]
  rw [c_1e4, coe_mean (by norm_num), EReal.coe_sub]

omit h in
/-- The key's number of rows. -/
theorem ref_k8 : (res_main_call2_v8 V : FVec Ideal S_ .f32) ix0 = ((10000 : ℝ) : EReal) := by
  unfold res_main_call2_v8
  clean_types
  pointwise
  rw [c_1e4, word_zero, sub_zero]

/-- The position encoding's first layer. -/
theorem ref_v80 (i : Fin 10000) (s : Fin 16) (j : Fin 128) : (res_main_v80 V : FVec Ideal S10000x16x128 .f32) (ix3 i s j) = ((A.p0f j (i, s) : ℝ) : EReal) := by
  unfold res_main_v80
  clean_types
  pointwise
  simp only [ref_take3 h, h.coord, h.Wp1, h.bp1, ← EReal.coe_mul, ← EReal.coe_add, ← EReal.coe_sub, coe_sum]
  rfl

/-- The position encoding's first layer's deviation from its mean. -/
theorem ref_p5 (i : Fin 10000) (s : Fin 16) (j : Fin 128) : (res_main_call4_v5 V : FVec Ideal S10000x16x128 .f32) (ix3 i s j) = ((A.p0f j (i, s) - mean 160000 (A.p0f j) : ℝ) : EReal) := by
  unfold res_main_call4_v5
  clean_types
  pointwise
  simp only [hostReduceAdd_a01]
  pointwise
  have p : (0 : ℝ) < 160000 := by norm_num
  simp only [ref_v80 h, c_16e4, zero_add, coe_mean2 p, EReal.coe_sub]

omit h in
/-- The position encoding's first layer's number of rows. -/
theorem ref_p8 : (res_main_call4_v8 V : FVec Ideal S_ .f32) ix0 = ((160000 : ℝ) : EReal) := by
  unfold res_main_call4_v8
  clean_types
  pointwise
  rw [c_16e4, word_zero, sub_zero]

/-- The position encoding. -/
theorem ref_v103 (i : Fin 10000) (s : Fin 16) (j : Fin 128) : (res_main_v103 V : FVec Ideal S10000x16x128 .f32) (ix3 i s j) = ((A.peb i s j : ℝ) : EReal) := by
  unfold res_main_v103
  clean_types
  pointwise
  simp only [hostReduceAdd_a01]
  pointwise
  have p : (0 : ℝ) < 160000 := by norm_num
  simp only [ref_v80 h, ref_p5 h, ref_p8, h.gp, h.betap, h.Wp2, h.bp2, c_16e4, c_eps, zero_add, if_pos pos_16e4,
    coe_mean2 p, coe_var2 p, coe_dev p, coe_norm p]
  simp only [← EReal.coe_mul, ← EReal.coe_add, coe_sum]
  rfl

/-- The weight network's first layer. -/
theorem ref_v109 (i : Fin 10000) (s : Fin 16) (j : Fin 8) : (res_main_v109 V : FVec Ideal S10000x16x8 .f32) (ix3 i s j) = ((A.r0f j (i, s) : ℝ) : EReal) := by
  unfold res_main_v109
  clean_types
  pointwise
  simp only [ref_take128 h]
  pointwise
  have p : (0 : ℝ) < 10000 := by norm_num
  simp only [ref_v103 h, ref_q0 h, ref_q5 h, ref_q8, ref_k0 h, ref_k5 h, ref_k8, h.gq, h.betaq, h.gk, h.betak, h.Ww1, h.bw1, c_1e4, c_eps, zero_add, if_pos pos_1e4,
    coe_mean p, coe_var p, coe_dev p, coe_norm p]
  simp only [← EReal.coe_mul, ← EReal.coe_add, ← EReal.coe_sub, coe_sum]
  rfl

/-- The weight network's first layer's deviation from its mean. -/
theorem ref_w5 (i : Fin 10000) (s : Fin 16) (j : Fin 8) : (res_main_call6_v5 V : FVec Ideal S10000x16x8 .f32) (ix3 i s j) = ((A.r0f j (i, s) - mean 160000 (A.r0f j) : ℝ) : EReal) := by
  unfold res_main_call6_v5
  clean_types
  pointwise
  simp only [hostReduceAdd_a01]
  pointwise
  have p : (0 : ℝ) < 160000 := by norm_num
  simp only [ref_v109 h, c_16e4, zero_add, coe_mean2 p, EReal.coe_sub]

omit h in
/-- The weight network's first layer's number of rows. -/
theorem ref_w8 : (res_main_call6_v8 V : FVec Ideal S_ .f32) ix0 = ((160000 : ℝ) : EReal) := by
  unfold res_main_call6_v8
  clean_types
  pointwise
  rw [c_16e4, word_zero, sub_zero]

/-- The logits. -/
theorem ref_v132 (i : Fin 10000) (s : Fin 16) (j : Fin 8) : (res_main_v132 V : FVec Ideal S10000x16x8 .f32) (ix3 i s j) = ((A.lg i s j : ℝ) : EReal) := by
  unfold res_main_v132
  clean_types
  pointwise
  simp only [hostReduceAdd_a01]
  pointwise
  have p : (0 : ℝ) < 160000 := by norm_num
  simp only [ref_v109 h, ref_w5 h, ref_w8, h.gw, h.betaw, h.Ww2, h.bw2, c_16e4, c_eps, zero_add, if_pos pos_16e4,
    coe_mean2 p, coe_var2 p, coe_dev p, coe_norm p]
  simp only [← EReal.coe_mul, ← EReal.coe_add, coe_sum]
  rfl

/-- The shifted exponentials. -/
theorem ref_v139 (i : Fin 10000) (s : Fin 16) (j : Fin 8) : (res_main_v139 V : FVec Ideal S10000x16x8 .f32) (ix3 i s j) = ((A.ex i s j : ℝ) : EReal) := by
  unfold res_main_v139
  clean_types
  pointwise
  simp only [ref_v132 h, c_bot, fold_max (n := 15), max_eq_right bot_le, ← EReal.coe_sub]
  rfl

/-- The reference's result. -/
theorem ref_out (i : Fin 10000) (j : Fin 128) :
    (shapeCast S10000x128 (Host.dotGeneral dot_S10000x16x8x16_S10000x16x8_S10000x8x16_1_1_3_n_02_02 none (shapeCast S10000x16x8x16 (addf (Host.gather gather_S10000x128_S10000x16x1_S10000x16x128_2_0_n_n_0_2_1128 (addf (Host.dotGeneral (φ₁ := .f32) (φ₂ := .f32) dot_S10000x128_S128x128_S10000x128_1_0_0_1_n_n none (V (Proc.devRef .tc main_arg0)) (V (Proc.devRef .tc main_arg11))) (broadcastInDim S10000x128 ![0, 1] bcast_S1x128_S10000x128_0_1 (broadcastInDim S1x128 ![1] bcast_S128_S1x128_1 (V (Proc.devRef .tc main_arg12))))) (broadcastInDim S10000x16x1 ![0, 1] bcast_S10000x16_S10000x16x1_0_1 (select (cmpi .slt (V (Proc.devRef .tc main_arg2)) (broadcastInDim S10000x16 ![] bcast_S_S10000x16 (constantI S_ 32 0#32))) (addi (V (Proc.devRef .tc main_arg2)) (broadcastInDim S10000x16 ![] bcast_S_S10000x16 (constantI S_ 32 10000#32))) (V (Proc.devRef .tc main_arg2))))) (res_main_v103 V)) shapeCasts_S10000x16x128_S10000x16x8x16) (mulf (Host.divf (res_main_v139 V) (broadcastInDim S10000x16x8 ![0, 1, 2] bcast_S10000x1x8_S10000x16x8_0_1_2 (broadcastInDim S10000x1x8 ![0, 2] bcast_S10000x8_S10000x1x8_0_2 (Host.reduceAdd (res_main_v139 V) (constant S_ .f32 0x00000000#32) reducesTo_S10000x16x8_S10000x8_d1 h_S_)))) (broadcastInDim S10000x16x8 ![0, 1, 2] bcast_S10000x16x1_S10000x16x8_0_1_2 (broadcastInDim S10000x16x1 ![0, 1] bcast_S10000x16_S10000x16x1_0_1 (sitofp .f32 (signi (addi (V (Proc.devRef .tc main_arg2)) (broadcastInDim S10000x16 ![] bcast_S_S10000x16 (constantI S_ 32 1#32))))))))) shapeCasts_S10000x8x16_S10000x128 : FVec Ideal S10000x128 .f32) (ix2 i j) = ((A.out i j : ℝ) : EReal) := by
  clean_types
  pointwise
  simp only [ref_take128 h]
  pointwise
  simp only [h.feat, h.Wv, h.bv, h.nb, ref_v103 h, ref_v139 h, word_sign _ (Fin.isLt _), word_one, mul_one, coe_sum, div_real _ _ (A.ex_sum_ne _ _), ← EReal.coe_mul, ← EReal.coe_add]
  rfl

end Cert.ReferenceIdeal.Value
end
-- ==== Proof.Region2.lean ====
/-
  What the logit launch leaves: the first weight layer's input at every point and neighbour, and its
  sum and its sum of squares over the 10000 real points.
-/
module

public import proofs.«01_k».proof.Proof.Gen.KernelIdeal.Frame
public import proofs.«01_k».proof.Proof.Reads
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The hidden layer of the position encoding, from the three coordinate planes. -/
def hidOf (px py pz : FVec Ideal S10240x16 .f32) (wx wy wz b : FVec Ideal S1x128 .f32) (n : Fin 10240) (s : Fin 16) (k : Fin 128) : EReal :=
  max (px (ix2 n s) * wx (ix2 (0 : Fin 1) k) + py (ix2 n s) * wy (ix2 (0 : Fin 1) k) + pz (ix2 n s) * wz (ix2 (0 : Fin 1) k) + b (ix2 (0 : Fin 1) k)) 0

/-- The first weight layer's input at a point, a neighbour and a group. -/
def xOf (px py pz : FVec Ideal S10240x16 .f32) (kg : FVec Ideal S10240x16x8 .f32) (qw : FVec Ideal S10240x8 .f32) (wx wy wz b : FVec Ideal S1x128 .f32)
    (U : FVec Ideal S128x8 .f32) (cw : FVec Ideal S1x8 .f32) (n : Fin 10240) (s : Fin 16) (g : Fin 8) : EReal :=
  kg (ix3 n s g) - qw (ix2 n g) + (∑ k : Fin 128, hidOf px py pz wx wy wz b n s k * U (ix2 k g)) + cw (ix2 (0 : Fin 1) g)

/-- The block placements of the logit launch. -/
theorem r2_idx : ∀ t : Fin cfg2.N, win2_0.index t = ![t.val, 0] ∧ win2_1.index t = ![t.val, 0] ∧ win2_2.index t = ![t.val, 0]
    ∧ win2_3.index t = ![t.val, 0, 0] ∧ win2_4.index t = ![t.val, 0] ∧ win2_5.index t = ![0, 0] ∧ win2_6.index t = ![0, 0] ∧ win2_7.index t = ![0, 0]
    ∧ win2_8.index t = ![0, 0] ∧ win2_9.index t = ![0, 0] ∧ win2_10.index t = ![0, 0]
    ∧ win2_11.index t = ![t.val, 0, 0] ∧ win2_12.index t = ![0, 0] ∧ win2_13.index t = ![0, 0] :=
  (by decide +kernel : ∀ t : Fin grid2.N, _)

/-- The launch's grid coordinate is the point's number. -/
theorem r2_coord : ∀ t : Fin cfg2.N, ((grid2.coords t) 0).val = t.val :=
  (by decide +kernel : ∀ t : Fin grid2.N, _)

/-- The sum starts at zero. -/
theorem r2_z2 (j) : k2_pay2 (F := Ideal) j = 0 := by pointwise [k2_pay2]
/-- The sum of squares starts at zero. -/
theorem r2_z3 (j) : k2_pay3 (F := Ideal) j = 0 := by pointwise [k2_pay3]

/-- The layer's input in one block. -/
theorem r2_p5 (x0 x1 x2 : FVec Ideal S512x16 .f32) (w0 w1 w2 w3 : FVec Ideal S1x128 .f32) (U : FVec Ideal S128x8 .f32) (kg : FVec Ideal S512x16x8 .f32)
    (qw : FVec Ideal S512x8 .f32) (cw : FVec Ideal S1x8 .f32) (r : Fin 512) (s : Fin 16) (g : Fin 8) :
    k2_pay5 (k2_pay4 x0 x1 x2 w0 w1 w2 w3) U kg qw cw (ix3 r s g) = kg (ix3 r s g) - qw (ix2 r g)
      + (∑ k : Fin 128, max (x0 (ix2 r s) * w0 (ix2 (0 : Fin 1) k) + x1 (ix2 r s) * w1 (ix2 (0 : Fin 1) k) + x2 (ix2 r s) * w2 (ix2 (0 : Fin 1) k) + w3 (ix2 (0 : Fin 1) k)) 0 * U (ix2 k g))
      + cw (ix2 (0 : Fin 1) g) := by pointwise [k2_pay5, k2_pay4]

/-- The layer's input after the launch. -/
theorem r2_x (c : Dev nD) : (dat2 V c).arrAt 11 cfg2.N = fun j : S10240x16x8.Idx => xOf (V c main_v85) (V c main_v87) (V c main_v89) (V c main_v96) (V c main_v73_1)
    (V c main_v130) (V c main_v133) (V c main_v136) (V c main_v141) (V c main_v137) (V c main_v140) (j 0) (j 1) (j 2) := by
  refine (dat2 V c).arrAt_eq_of_covers 11 _ (by decide +kernel) fun t hf y => ?_
  blk_simp
  rw [after2_11]
  have h1 := r2_idx t
  by_cases h0 : t.val % 20 = 0
  · rw [outsAt2_A V c t h0]; frame_out
    pointwise [xOf, hidOf, k2_pay5, k2_pay4]
    blk_point [iblk2, h1]
  · rw [outsAt2_B V c t h0]; frame_out
    pointwise [xOf, hidOf, k2_pay5, k2_pay4]
    blk_point [iblk2, h1]

end Cert.KernelIdeal.Value
end
-- ==== Proof.Region2b.lean ====
/-
  The two statistics the logit launch leaves: the sum and the sum of squares of the first weight
  layer's input over the points before row 10000.
-/
module

public import proofs.«01_k».proof.Proof.Region2

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The block index word of a row, compared with the number of real rows. -/
theorem r2_word (t : ℕ) (ht : t < 20) (r : Fin 512) :
    IntOp.cmpi CmpIPredicate.slt (IntOp.addi (Scalar.muli (BitVec.ofNat 32 t) 512#32) (BitVec.ofNat 32 r.val)) 10000#32
      = BitVec.ofBool (decide (t * 512 + r.val < 10000)) := by
  have e : IntOp.addi (Scalar.muli (BitVec.ofNat 32 t) 512#32) (BitVec.ofNat 32 r.val) = BitVec.ofNat 32 (t * 512 + r.val) := by
    show BitVec.ofNat 32 t * BitVec.ofNat 32 512 + BitVec.ofNat 32 r.val = _
    rw [BitVec.ofNat_add, BitVec.ofNat_mul]
  rw [e]
  have hr := r.isLt
  show BitVec.ofBool (BitVec.slt _ _) = _
  congr 1
  rw [BitVec.slt, BitVec.toInt_eq_toNat_of_lt, BitVec.toInt_eq_toNat_of_lt] <;> simp [BitVec.toNat_ofNat] <;> omega

/-- The masked input in one block. -/
theorem r2_p6 (t : ℕ) (ht : t < 20) (h : FVec Ideal S512x16x128 .f32) (U : FVec Ideal S128x8 .f32) (kg : FVec Ideal S512x16x8 .f32)
    (qw : FVec Ideal S512x8 .f32) (cw : FVec Ideal S1x8 .f32) (r : Fin 512) (s : Fin 16) (g : Fin 8) :
    k2_pay6 (BitVec.ofNat 32 t) h U kg qw cw (ix3 r s g) = if t * 512 + r.val < 10000 then k2_pay5 h U kg qw cw (ix3 r s g) else 0 := by
  pointwise [k2_pay6]
  rw [r2_word t ht r]
  unfold Scalar.select
  by_cases hc : t * 512 + r.val < 10000 <;> simp [hc]

/-- A block's addition to the sum, over its masked entries. -/
theorem r2_p7 (a : BitVec 32) (h : FVec Ideal S512x16x128 .f32) (U : FVec Ideal S128x8 .f32) (kg : FVec Ideal S512x16x8 .f32)
    (qw : FVec Ideal S512x8 .f32) (cw : FVec Ideal S1x8 .f32) (acc : FVec Ideal S1x8 .f32) (j : S1x8.Idx) :
    k2_pay7 a h U kg qw cw acc j = acc j + ∑ r : Fin 512, ∑ s : Fin 16, k2_pay6 a h U kg qw cw (ix3 r s (j 1)) := by
  pointwise [k2_pay7]
  rw [Cert.Reads.reduceAdd_a01]
  try pointwise

/-- A block's addition to the sum of squares, over its masked entries. -/
theorem r2_p1 (a : BitVec 32) (h : FVec Ideal S512x16x128 .f32) (U : FVec Ideal S128x8 .f32) (kg : FVec Ideal S512x16x8 .f32)
    (qw : FVec Ideal S512x8 .f32) (cw : FVec Ideal S1x8 .f32) (acc : FVec Ideal S1x8 .f32) (j : S1x8.Idx) :
    k2_pay1 (k2_pay8 acc) (k2_pay9 a h U kg qw cw) j = acc j + ∑ r : Fin 512, ∑ s : Fin 16, k2_pay6 a h U kg qw cw (ix3 r s (j 1)) * k2_pay6 a h U kg qw cw (ix3 r s (j 1)) := by
  pointwise [k2_pay1, k2_pay8, k2_pay9]
  rw [Cert.Reads.reduceAdd_a01]
  try pointwise

/-- The grid coordinate is less than 20. -/
theorem r2_lt (t : Fin cfg2.N) : ((grid2.coords t) 0).val < 20 := ((grid2.coords t) 0).isLt

/-- One point's addition to the sum. -/
theorem r2_s7 (t : Fin cfg2.N) (x0 x1 x2 : FVec Ideal S512x16 .f32) (w0 w1 w2 w3 : FVec Ideal S1x128 .f32) (U : FVec Ideal S128x8 .f32) (kg : FVec Ideal S512x16x8 .f32)
    (qw : FVec Ideal S512x8 .f32) (cw : FVec Ideal S1x8 .f32) (acc : FVec Ideal S1x8 .f32) (j : S1x8.Idx) :
    k2_pay7 (BitVec.ofNat 32 ((grid2.coords t) 0).val) (k2_pay4 x0 x1 x2 w0 w1 w2 w3) U kg qw cw acc j
      = acc j + ∑ r : Fin 512, ∑ s : Fin 16, (if t.val * 512 + r.val < 10000 then kg (ix3 r s (j 1)) - qw (ix2 r (j 1))
      + (∑ k : Fin 128, max (x0 (ix2 r s) * w0 (ix2 (0 : Fin 1) k) + x1 (ix2 r s) * w1 (ix2 (0 : Fin 1) k) + x2 (ix2 r s) * w2 (ix2 (0 : Fin 1) k) + w3 (ix2 (0 : Fin 1) k)) 0 * U (ix2 k (j 1)))
      + cw (ix2 (0 : Fin 1) (j 1)) else 0) := by
  rw [r2_p7]
  refine congrArg (acc j + ·) (Finset.sum_congr rfl fun r _ => Finset.sum_congr rfl fun s _ => ?_)
  refine (r2_p6 _ (r2_lt t) _ _ _ _ _ r s (j 1)).trans ?_
  rw [r2_coord t]
  exact if_congr Iff.rfl (r2_p5 x0 x1 x2 w0 w1 w2 w3 U kg qw cw r s (j 1)) rfl

/-- One point's addition to the sum of squares. -/
theorem r2_s1 (t : Fin cfg2.N) (x0 x1 x2 : FVec Ideal S512x16 .f32) (w0 w1 w2 w3 : FVec Ideal S1x128 .f32) (U : FVec Ideal S128x8 .f32) (kg : FVec Ideal S512x16x8 .f32)
    (qw : FVec Ideal S512x8 .f32) (cw : FVec Ideal S1x8 .f32) (acc : FVec Ideal S1x8 .f32) (j : S1x8.Idx) :
    k2_pay1 (k2_pay8 acc) (k2_pay9 (BitVec.ofNat 32 ((grid2.coords t) 0).val) (k2_pay4 x0 x1 x2 w0 w1 w2 w3) U kg qw cw) j
      = acc j + ∑ r : Fin 512, ∑ s : Fin 16, (if t.val * 512 + r.val < 10000 then kg (ix3 r s (j 1)) - qw (ix2 r (j 1))
      + (∑ k : Fin 128, max (x0 (ix2 r s) * w0 (ix2 (0 : Fin 1) k) + x1 (ix2 r s) * w1 (ix2 (0 : Fin 1) k) + x2 (ix2 r s) * w2 (ix2 (0 : Fin 1) k) + w3 (ix2 (0 : Fin 1) k)) 0 * U (ix2 k (j 1)))
      + cw (ix2 (0 : Fin 1) (j 1)) else 0) * (if t.val * 512 + r.val < 10000 then kg (ix3 r s (j 1)) - qw (ix2 r (j 1))
      + (∑ k : Fin 128, max (x0 (ix2 r s) * w0 (ix2 (0 : Fin 1) k) + x1 (ix2 r s) * w1 (ix2 (0 : Fin 1) k) + x2 (ix2 r s) * w2 (ix2 (0 : Fin 1) k) + w3 (ix2 (0 : Fin 1) k)) 0 * U (ix2 k (j 1)))
      + cw (ix2 (0 : Fin 1) (j 1)) else 0) := by
  rw [r2_p1]
  refine congrArg (acc j + ·) (Finset.sum_congr rfl fun r _ => Finset.sum_congr rfl fun s _ => ?_)
  have e := (r2_p6 _ (r2_lt t) (k2_pay4 x0 x1 x2 w0 w1 w2 w3) U kg qw cw r s (j 1)).trans
    (if_congr (by rw [r2_coord t]) (r2_p5 x0 x1 x2 w0 w1 w2 w3 U kg qw cw r s (j 1)) rfl)
  exact congrArg₂ (· * ·) e e

/-- The sum after the launch. -/
theorem r2_xs (c : Dev nD) : (dat2 V c).arrAt 12 cfg2.N = fun j : S1x8.Idx => ∑ n : Fin 10240, ∑ s : Fin 16, (if n.val < 10000 then
    xOf (V c main_v85) (V c main_v87) (V c main_v89) (V c main_v96) (V c main_v73_1)
    (V c main_v130) (V c main_v133) (V c main_v136) (V c main_v141) (V c main_v137) (V c main_v140) n s (j 1) else 0) := by
  refine (dat2 V c).arrAt_eq_of_covers 12 _ (by decide +kernel) fun t hf y => ?_
  blk_simp
  rw [after2_12, Pipeline.eq_sum_fin_of_reset_step_apply_of_flush (fun n h => (outsAt2 V c n h).2.1) 20 (fun _ => 0) _
    (fun t h j => by rw [outsAt2_A V c t h]; frame_out; rw [r2_s7, r2_z2]) (fun t h j => by rw [outsAt2_B V c t h]; frame_out; rw [r2_s7])
    t ((flush2_12 t).mp hf) _, zero_add]
  refine Fin.sum_mul_add_congr fun s k hl => ?_
  have hi := r2_idx ⟨_, Pipeline.run_point_lt_of_flush t ((flush2_12 t).mp hf) s⟩
  have h1 := r2_idx t
  have ht : t.val / 20 = 0 := Nat.div_eq_of_lt (lt_of_lt_of_eq t.isLt N_2)
  refine Fin.sum_fin_congr fun q => ?_
  refine if_congr ?_ ?_ rfl
  · show (20 * (t.val / 20) + s.val) * 512 + k.val < 10000 ↔ s.val * 512 + k.val < 10000
    rw [ht, Nat.mul_zero, Nat.zero_add]
  · unfold xOf hidOf
    blk_point [iblk2, h1, hi]

/-- The sum of squares after the launch. -/
theorem r2_xss (c : Dev nD) : (dat2 V c).arrAt 13 cfg2.N = fun j : S1x8.Idx => ∑ n : Fin 10240, ∑ s : Fin 16, (if n.val < 10000 then
    xOf (V c main_v85) (V c main_v87) (V c main_v89) (V c main_v96) (V c main_v73_1)
    (V c main_v130) (V c main_v133) (V c main_v136) (V c main_v141) (V c main_v137) (V c main_v140) n s (j 1) else 0) * (if n.val < 10000 then
    xOf (V c main_v85) (V c main_v87) (V c main_v89) (V c main_v96) (V c main_v73_1)
    (V c main_v130) (V c main_v133) (V c main_v136) (V c main_v141) (V c main_v137) (V c main_v140) n s (j 1) else 0) := by
  refine (dat2 V c).arrAt_eq_of_covers 13 _ (by decide +kernel) fun t hf y => ?_
  blk_simp
  rw [after2_13, Pipeline.eq_sum_fin_of_reset_step_apply_of_flush (fun n h => (outsAt2 V c n h).2.2) 20 (fun _ => 0) _
    (fun t h j => by rw [outsAt2_A V c t h]; frame_out; rw [r2_s1, r2_z3]) (fun t h j => by rw [outsAt2_B V c t h]; frame_out; rw [r2_s1])
    t ((flush2_13 t).mp hf) _, zero_add]
  refine Fin.sum_mul_add_congr fun s k hl => ?_
  have hi := r2_idx ⟨_, Pipeline.run_point_lt_of_flush t ((flush2_13 t).mp hf) s⟩
  have h1 := r2_idx t
  have ht : t.val / 20 = 0 := Nat.div_eq_of_lt (lt_of_lt_of_eq t.isLt N_2)
  refine Fin.sum_fin_congr fun q => ?_
  have hc : (20 * (t.val / 20) + s.val) * 512 + k.val < 10000 ↔ s.val * 512 + k.val < 10000 := by
    rw [ht, Nat.mul_zero, Nat.zero_add]
  refine congrArg₂ (· * ·) (if_congr hc ?_ rfl) (if_congr hc ?_ rfl)
  · unfold xOf hidOf
    blk_point [iblk2, h1, hi]
  · unfold xOf hidOf
    blk_point [iblk2, h1, hi]

end Cert.KernelIdeal.Value
end
-- ==== Proof.Region3.lean ====
/-
  What the attention launch leaves: the softmax weights, and the position part of the weighted sum.
-/
module

public import proofs.«01_k».proof.Proof.Region2

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The logit of a point, a neighbour and a group. -/
def lgOf {n : ℕ} (x : FVec Ideal ⟨3, ![n, 16, 8]⟩ .f32) (sW tW : FVec Ideal S1x8 .f32) (W : FVec Ideal S8x8 .f32) (b : FVec Ideal S1x8 .f32)
    (r : Fin n) (s : Fin 16) (g : Fin 8) : EReal :=
  (∑ k : Fin 8, max (x (ix3 r s k) * sW (ix2 (0 : Fin 1) k) + tW (ix2 (0 : Fin 1) k)) 0 * W (ix2 k g)) + b (ix2 (0 : Fin 1) g)

/-- The exponential of a logit less the greatest logit of its point and group. -/
def exOf {n : ℕ} (x : FVec Ideal ⟨3, ![n, 16, 8]⟩ .f32) (sW tW : FVec Ideal S1x8 .f32) (W : FVec Ideal S8x8 .f32) (b : FVec Ideal S1x8 .f32)
    (r : Fin n) (s : Fin 16) (g : Fin 8) : EReal :=
  Ideal.exp (lgOf x sW tW W b r s g - (Finset.univ : Finset (Fin 16)).fold max (⊥ : EReal) (fun k => lgOf x sW tW W b r k g))

/-- The softmax weight of a neighbour. -/
def smOf {n : ℕ} (x : FVec Ideal ⟨3, ![n, 16, 8]⟩ .f32) (sW tW : FVec Ideal S1x8 .f32) (W : FVec Ideal S8x8 .f32) (b : FVec Ideal S1x8 .f32)
    (r : Fin n) (s : Fin 16) (g : Fin 8) : EReal :=
  Ideal.div (exOf x sW tW W b r s g) (∑ k : Fin 16, exOf x sW tW W b r k g)

/-- The block placements of the attention launch. -/
theorem r3_idx : ∀ t : Fin cfg3.N, win3_0.index t = ![t.val, 0, 0] ∧ win3_1.index t = ![t.val, 0] ∧ win3_2.index t = ![t.val, 0]
    ∧ win3_3.index t = ![t.val, 0] ∧ win3_4.index t = ![0, 0] ∧ win3_5.index t = ![0, 0] ∧ win3_6.index t = ![0, 0] ∧ win3_7.index t = ![0, 0]
    ∧ win3_8.index t = ![0, 0] ∧ win3_9.index t = ![0, 0] ∧ win3_10.index t = ![0, 0] ∧ win3_11.index t = ![0, 0] ∧ win3_12.index t = ![0, 0] ∧ win3_13.index t = ![0, 0]
    ∧ win3_14.index t = ![t.val, 0] ∧ win3_15.index t = ![t.val, 0, 0] :=
  (by decide +kernel : ∀ t : Fin grid3.N, _)

/-- The softmax weights of one block. -/
theorem r3_p1 (x : FVec Ideal S512x16x8 .f32) (sW tW : FVec Ideal S1x8 .f32) (W : FVec Ideal S8x8 .f32) (b : FVec Ideal S1x8 .f32) (r : Fin 512) (s : Fin 16) (g : Fin 8) :
    k3_pay1 (F := Ideal) x sW tW W b (ix3 r s g) = smOf x sW tW W b r s g := by
  unfold smOf exOf lgOf
  pointwise [k3_pay1]
  try rw [Cert.Reads.c_bot]

/-- The weights after the launch. -/
theorem r3_w (c : Dev nD) : (dat3 V c).arrAt 15 cfg3.N = fun j : S10240x16x8.Idx => smOf (n := 10240) (V c main_v142_0) (V c main_v157) (V c main_v158) (V c main_arg23) (V c main_v159) (j 0) (j 1) (j 2) := by
  refine (dat3 V c).arrAt_eq_of_covers 15 _ (by decide +kernel) fun t hf y => ?_
  blk_simp
  rw [after3_15]; frame_out
  have h1 := r3_idx t
  idx_vars y
  rw [r3_p1]
  unfold smOf exOf lgOf
  blk_point [iblk3, h1]

end Cert.KernelIdeal.Value
end
-- ==== Proof.Region3b.lean ====
/-
  The position part of the weighted sum that the attention launch leaves.
-/
module

public import proofs.«01_k».proof.Proof.Region3

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- One block of the position part: each column reads the weights of its own group. -/
theorem r3_o_block (x0 : FVec Ideal S512x16x8 .f32) (x1 x2 x3 : FVec Ideal S512x16 .f32) (x4 x5 : FVec Ideal S1x8 .f32) (x6 : FVec Ideal S8x8 .f32) (x7 : FVec Ideal S1x8 .f32)
    (x8 x9 x10 x11 : FVec Ideal S1x128 .f32) (x12 : FVec Ideal S128x128 .f32) (x13 : FVec Ideal S1x128 .f32) (y : S512x128.Idx) (g : Fin 8) (hg : g.val = (y 1).val / 16) :
    out3_14 (F := Ideal) x0 x1 x2 x3 x4 x5 x6 x7 x8 x9 x10 x11 x12 x13 y
      = (∑ k : Fin 128, (∑ s : Fin 16, k3_pay21 (F := Ideal) x0 x1 x2 x3 x4 x5 x6 x7 x8 x9 x10 x11 x12 x13 (ix3 (y 0) s g)
            * k3_pay24 (F := Ideal) x0 x1 x2 x3 x4 x5 x6 x7 x8 x9 x10 x11 x12 x13 (ix3 (y 0) s k)) * x12 (ix2 k (y 1)))
        + (∑ s : Fin 16, k3_pay21 (F := Ideal) x0 x1 x2 x3 x4 x5 x6 x7 x8 x9 x10 x11 x12 x13 (ix3 (y 0) s g)) * x13 (ix2 (0 : Fin 1) (y 1)) := by
  have e25 : ∀ q : Fin 128, k3_pay25 (F := Ideal) x0 x1 x2 x3 x4 x5 x6 x7 x8 x9 x10 x11 x12 x13 (ix2 (0 : Fin 1) q) = x13 (ix2 (0 : Fin 1) q) := fun q => by pointwise [k3_pay25, k3_pay5]
  have e24 : k3_pay4 (F := Ideal) (k3_pay22 (F := Ideal) x0 x1 x2 x3 x4 x5 x6 x7 x8 x9 x10 x11 x12 x13) (k3_pay23 (F := Ideal) x0 x1 x2 x3 x4 x5 x6 x7 x8 x9 x10 x11 x12 x13) (View.ld x3 r3_3) (View.ld x8 r3_4) (View.ld x9 r3_4) (View.ld x10 r3_4) (View.ld x11 r3_4) = k3_pay24 (F := Ideal) x0 x1 x2 x3 x4 x5 x6 x7 x8 x9 x10 x11 x12 x13 := rfl
  unfold out3_14
  canon_tiles x h
  case piece0 => pointwise [k3_pay20, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece1 => pointwise [k3_pay19, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece2 => pointwise [k3_pay18, k3_pay16, k3_pay17, k3_pay15, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece3 => pointwise [k3_pay14, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece4 => pointwise [k3_pay13, k3_pay12, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece5 => pointwise [k3_pay11, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece6 => pointwise [k3_pay10, e25]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []
  case piece7 => pointwise [k3_pay9, k3_pay7, k3_pay8, k3_pay6, e25]; rw [e24]; generalize k3_pay21 (F := Ideal) x0 x1 x2 x3 x4 x5 x6 x7 x8 x9 x10 x11 x12 x13 = w; generalize k3_pay24 (F := Ideal) x0 x1 x2 x3 x4 x5 x6 x7 x8 x9 x10 x11 x12 x13 = hh; blk_point []

/-- The group that a column belongs to. -/
def grp (q : Fin 128) : Fin 8 := ⟨q.val / 16, by omega⟩

/-- The position part after the launch. -/
theorem r3_o (c : Dev nD) : (dat3 V c).arrAt 14 cfg3.N = fun j : S10240x128.Idx =>
    (∑ k : Fin 128, (∑ s : Fin 16, smOf (n := 10240) (V c main_v142_0) (V c main_v157) (V c main_v158) (V c main_arg23) (V c main_v159) (j 0) s (grp (j 1))
        * hidOf (V c main_v85) (V c main_v87) (V c main_v89) (V c main_v130) (V c main_v133) (V c main_v136) (V c main_v160) (j 0) s k) * (show FVec Ideal S128x128 .f32 from V c main_arg17) (ix2 k (j 1)))
      + (∑ s : Fin 16, smOf (n := 10240) (V c main_v142_0) (V c main_v157) (V c main_v158) (V c main_arg23) (V c main_v159) (j 0) s (grp (j 1))) * (show FVec Ideal S1x128 .f32 from V c main_v161) (ix2 (0 : Fin 1) (j 1)) := by
  refine (dat3 V c).arrAt_eq_of_covers 14 _ (by decide +kernel) fun t hf y => ?_
  blk_simp
  rw [after3_14]
  have h1 := r3_idx t
  idx_vars y
  refine (r3_o_block (iblk3 V c 0 t) (iblk3 V c 1 t) (iblk3 V c 2 t) (iblk3 V c 3 t) (iblk3 V c 4 t) (iblk3 V c 5 t) (iblk3 V c 6 t) (iblk3 V c 7 t)
    (iblk3 V c 8 t) (iblk3 V c 9 t) (iblk3 V c 10 t) (iblk3 V c 11 t) (iblk3 V c 12 t) (iblk3 V c 13 t) (ix2 y0 y1) (grp y1) rfl).trans ?_
  have eh : ∀ (s : Fin 16) (k : Fin 128), k3_pay24 (F := Ideal) (iblk3 V c 0 t) (iblk3 V c 1 t) (iblk3 V c 2 t) (iblk3 V c 3 t) (iblk3 V c 4 t) (iblk3 V c 5 t) (iblk3 V c 6 t) (iblk3 V c 7 t)
    (iblk3 V c 8 t) (iblk3 V c 9 t) (iblk3 V c 10 t) (iblk3 V c 11 t) (iblk3 V c 12 t) (iblk3 V c 13 t) (ix3 y0 s k)
      = hidOf (V c main_v85) (V c main_v87) (V c main_v89) (V c main_v130) (V c main_v133) (V c main_v136) (V c main_v160) ⟨t.val * 512 + y0.val, by have := lt_of_lt_of_eq t.isLt N_3; omega⟩ s k := fun s k => by
    unfold hidOf
    pointwise [k3_pay24, k3_pay4, k3_pay22, k3_pay23, k3_pay2, k3_pay3]
    blk_point [iblk3, h1]
  have ew : ∀ (s : Fin 16) (g : Fin 8), k3_pay21 (F := Ideal) (iblk3 V c 0 t) (iblk3 V c 1 t) (iblk3 V c 2 t) (iblk3 V c 3 t) (iblk3 V c 4 t) (iblk3 V c 5 t) (iblk3 V c 6 t) (iblk3 V c 7 t)
    (iblk3 V c 8 t) (iblk3 V c 9 t) (iblk3 V c 10 t) (iblk3 V c 11 t) (iblk3 V c 12 t) (iblk3 V c 13 t) (ix3 y0 s g)
      = smOf (n := 10240) (V c main_v142_0) (V c main_v157) (V c main_v158) (V c main_arg23) (V c main_v159) ⟨t.val * 512 + y0.val, by have := lt_of_lt_of_eq t.isLt N_3; omega⟩ s g := fun s g => by
    unfold k3_pay21
    frame_out
    rw [r3_p1]
    unfold smOf exOf lgOf
    blk_point [iblk3, h1]
  have e0 : ((((cfg3.win 14).blk t).view.emb (ix2 y0 y1)) 0) = (⟨t.val * 512 + y0.val, by have := lt_of_lt_of_eq t.isLt N_3; omega⟩ : Fin 10240) := by
    refine Fin.ext ?_
    blk_simp [h1]
  have e1 : ((((cfg3.win 14).blk t).view.emb (ix2 y0 y1)) 1) = y1 := by
    refine Fin.ext ?_
    blk_simp [h1]
  simp only [e0, e1]
  refine congrArg₂ (· + ·) (Fin.sum_fin_congr fun k => congrArg₂ (· * ·) (Fin.sum_fin_congr fun s => congrArg₂ (· * ·) (ew s _) (eh s k)) ?_)
    (congrArg₂ (· * ·) (Fin.sum_fin_congr fun s => ew s _) ?_)
  · blk_point [iblk3, h1]
  · blk_point [iblk3, h1]

end Cert.KernelIdeal.Value
end
-- ==== Proof.Host.lean ====
/-
  What the host operations before the first two launches leave, over the real numbers.
-/
module

public import proofs.«01_k».proof.Proof.Gen.KernelIdeal.Frame
public import proofs.«01_k».proof.Proof.Pre
public import proofs.«01_k».proof.Proof.Coe
public import Idealize.ShloMosaic.Lib.Pipeline.ValueKit
public import Idealize.ShloMosaic.Lib.StableHlo.ReadAt

@[expose] public section

set_option maxRecDepth 16384

noncomputable section
open Idealize.ShloMosaic Idealize.ShloMosaic.TcCoe Idealize.SL.Sem
namespace Cert.KernelIdeal.Value
open Cert.KernelIdeal Cert.KernelIdeal.Gen Cert.Model Cert.Reads

/-- The arguments of the kernel hold the real arguments `A`. -/
abbrev RepK (A : Args) (V : Valuation τ sig (Elt Ideal)) : Prop :=
  Rep A (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24))

variable {A : Args} {V : Valuation τ sig (Elt Ideal)}

/-- The padded arrays: the features are followed by rows of zeros, the coordinates by copies of the first row, and the
    neighbours by rows that name the first point. -/
structure Pad (A : Args) (V : Valuation τ sig (Elt Ideal)) : Prop where
  feat : ∀ (n : Fin 10000) (j : Fin 128), (V (Proc.devRef .tc main_v0) : FVec Ideal S10240x128 .f32) (ix2 (up n) j) = ((A.feat n j : ℝ) : EReal)
  zero : ∀ (r : Fin 10240) (j : Fin 128), 10000 ≤ r.val → (V (Proc.devRef .tc main_v0) : FVec Ideal S10240x128 .f32) (ix2 r j) = (0 : EReal)
  coord : ∀ (r : Fin 10240) (d : Fin 3), (V (Proc.devRef .tc main_v4) : FVec Ideal S10240x3 .f32) (ix2 r d) = ((A.coord (Args.lo r) d : ℝ) : EReal)
  nb : ∀ (r : Fin 10240) (s : Fin 16), (V (Proc.devRef .tc main_v5) : IVec S10240x16 32) (ix2 r s) = BitVec.ofNat 32 (A.nb5 r s).val

/-- The host operations before the first launch pad the arguments. -/
theorem pad_of (h : RepK A V) : Pad A (StableHlo.after hostOps0_3 (StableHlo.after hostOps0_2 (StableHlo.after hostOps0_1 (StableHlo.after hostOps0 V)))) where
  feat n j := by
    after_reads_at
    rw [dif_pos (show (up n).val < 10000 from n.isLt)]
    exact h.feat n j
  zero r j hr := by
    after_reads_at
    rw [dif_neg (by omega)]
    exact word_zero
  coord r d := by
    after_reads_at
    unfold Args.lo
    split
    · exact h.coord _ d
    · exact h.coord 0 d
  nb r s := by
    after_reads_at
    unfold Args.nb5
    split
    · exact h.nb _ s
    · rfl

section take
variable (p : Pad A V)
include p

/-- The row that the kernel takes for a neighbour. -/
theorem ker_idx (n : Fin 10240) (s : Fin 16) : (broadcastInDim S10240x16x1 ![0, 1] bcast_S10240x16_S10240x16x1_0_1 (select (cmpi .slt (V (Proc.devRef .tc main_v5)) (broadcastInDim S10240x16 ![] bcast_S_S10240x16 (constantI S_ 32 0#32))) (addi (V (Proc.devRef .tc main_v5)) (broadcastInDim S10240x16 ![] bcast_S_S10240x16 (constantI S_ 32 10240#32))) (V (Proc.devRef .tc main_v5)))) (ix3 n s (0 : Fin 1)) = BitVec.ofNat 32 (A.nb5 n s).val := by
  clean_types
  pointwise
  rw [p.nb]
  exact wrap_word _ (by omega) _

/-- Rows of 3 taken at the neighbours. -/
theorem ker_take3 (x : FVec Ideal S10240x3 .f32) (n : Fin 10240) (s : Fin 16) (d : Fin 3) :
    Host.gather gather_S10240x3_S10240x16x1_S10240x16x3_2_0_n_n_0_2_13 x (broadcastInDim S10240x16x1 ![0, 1] bcast_S10240x16_S10240x16x1_0_1 (select (cmpi .slt (V (Proc.devRef .tc main_v5)) (broadcastInDim S10240x16 ![] bcast_S_S10240x16 (constantI S_ 32 0#32))) (addi (V (Proc.devRef .tc main_v5)) (broadcastInDim S10240x16 ![] bcast_S_S10240x16 (constantI S_ 32 10240#32))) (V (Proc.devRef .tc main_v5)))) (ix3 n s d) = x (ix2 (up (A.nb5 n s)) d) := by
  refine (gather_rows (by norm_num) _ x _ n s d).trans ?_
  refine congrArg (fun r => x (ix2 r d)) (Fin.ext ?_)
  show min _ _ = _
  rw [ker_idx p]
  exact word_row _ _ (up (A.nb5 n s)).isLt (by norm_num)

/-- Rows of 8 taken at the neighbours. -/
theorem ker_take8 (x : FVec Ideal S10240x8 .f32) (n : Fin 10240) (s : Fin 16) (d : Fin 8) :
    Host.gather gather_S10240x8_S10240x16x1_S10240x16x8_2_0_n_n_0_2_18 x (broadcastInDim S10240x16x1 ![0, 1] bcast_S10240x16_S10240x16x1_0_1 (select (cmpi .slt (V (Proc.devRef .tc main_v5)) (broadcastInDim S10240x16 ![] bcast_S_S10240x16 (constantI S_ 32 0#32))) (addi (V (Proc.devRef .tc main_v5)) (broadcastInDim S10240x16 ![] bcast_S_S10240x16 (constantI S_ 32 10240#32))) (V (Proc.devRef .tc main_v5)))) (ix3 n s d) = x (ix2 (up (A.nb5 n s)) d) := by
  refine (gather_rows (by norm_num) _ x _ n s d).trans ?_
  refine congrArg (fun r => x (ix2 r d)) (Fin.ext ?_)
  show min _ _ = _
  rw [ker_idx p]
  exact word_row _ _ (up (A.nb5 n s)).isLt (by norm_num)

/-- Rows of 128 taken at the neighbours. -/
theorem ker_take128 (x : FVec Ideal S10240x128 .f32) (n : Fin 10240) (s : Fin 16) (d : Fin 128) :
    Host.gather gather_S10240x128_S10240x16x1_S10240x16x128_2_0_n_n_0_2_1128 x (broadcastInDim S10240x16x1 ![0, 1] bcast_S10240x16_S10240x16x1_0_1 (select (cmpi .slt (V (Proc.devRef .tc main_v5)) (broadcastInDim S10240x16 ![] bcast_S_S10240x16 (constantI S_ 32 0#32))) (addi (V (Proc.devRef .tc main_v5)) (broadcastInDim S10240x16 ![] bcast_S_S10240x16 (constantI S_ 32 10240#32))) (V (Proc.devRef .tc main_v5)))) (ix3 n s d) = x (ix2 (up (A.nb5 n s)) d) := by
  refine (gather_rows (by norm_num) _ x _ n s d).trans ?_
  refine congrArg (fun r => x (ix2 r d)) (Fin.ext ?_)
  show min _ _ = _
  rw [ker_idx p]
  exact word_row _ _ (up (A.nb5 n s)).isLt (by norm_num)

end take

/-- The column sums and the Gram matrix of the features, in the buffers where the second host stretch reads them. -/
structure Stat (A : Args) (V : Valuation τ sig (Elt Ideal)) : Prop where
  gram : ∀ k l : Fin 128, (V (Proc.devRef .tc main_v6_0) : FVec Ideal S128x128 .f32) (ix2 k l) = ((∑ n, A.feat n k * A.feat n l : ℝ) : EReal)
  cols : ∀ k : Fin 128, (V (Proc.devRef .tc main_v6_1) : FVec Ideal S1x128 .f32) (ix2 (0 : Fin 1) k) = ((∑ n, A.feat n k : ℝ) : EReal)

section fold1
variable (h : RepK A V) (e : Stat A V)
include h e

/-- The query's matrix with its normalization folded in. -/
theorem fold_qW (k j : Fin 128) : (StableHlo.after hostOps1 V (Proc.devRef .tc main_v36) : FVec Ideal S128x128 .f32) (ix2 k j)
    = ((A.Wq k j * scl 10000 (A.q0f j) (A.gq j) : ℝ) : EReal) := by
  after_reads_at
  have p : (0 : ℝ) < 10000 := by norm_num
  simp only [h.Wq, h.bq, h.gq, h.betaq, e.gram, e.cols, c_1e4, c_two, c_eps, coe_gram A.feat, coe_sum_form A.feat]
  simp only [coe_mean_shift p Args.card1]
  simp only [coe_var_shift p Args.card1]
  simp only [coe_dev p]
  simp only [coe_scl p]
  simp only [← EReal.coe_mul, ← EReal.coe_add, ← EReal.coe_sub]
  rfl

/-- The query's offset with its normalization folded in. -/
theorem fold_qb (j : Fin 128) : (StableHlo.after hostOps1 V (Proc.devRef .tc main_v39) : FVec Ideal S1x128 .f32) (ix2 (0 : Fin 1) j)
    = ((A.bq j * scl 10000 (A.q0f j) (A.gq j) + (A.betaq j - mean 10000 (A.q0f j) * scl 10000 (A.q0f j) (A.gq j)) : ℝ) : EReal) := by
  after_reads_at
  have p : (0 : ℝ) < 10000 := by norm_num
  simp only [h.Wq, h.bq, h.gq, h.betaq, e.gram, e.cols, c_1e4, c_two, c_eps, coe_gram A.feat, coe_sum_form A.feat]
  simp only [coe_mean_shift p Args.card1]
  simp only [coe_var_shift p Args.card1]
  simp only [coe_dev p]
  simp only [coe_scl p]
  simp only [← EReal.coe_mul, ← EReal.coe_add, ← EReal.coe_sub]
  rfl

/-- The key's matrix with its normalization folded in. -/
theorem fold_kW (k j : Fin 128) : (StableHlo.after hostOps1 V (Proc.devRef .tc main_v68) : FVec Ideal S128x128 .f32) (ix2 k j)
    = ((A.Wk k j * scl 10000 (A.k0f j) (A.gk j) : ℝ) : EReal) := by
  after_reads_at
  have p : (0 : ℝ) < 10000 := by norm_num
  simp only [h.Wk, h.bk, h.gk, h.betak, e.gram, e.cols, c_1e4, c_two, c_eps, coe_gram A.feat, coe_sum_form A.feat]
  simp only [coe_mean_shift p Args.card1]
  simp only [coe_var_shift p Args.card1]
  simp only [coe_dev p]
  simp only [coe_scl p]
  simp only [← EReal.coe_mul, ← EReal.coe_add, ← EReal.coe_sub]
  rfl

/-- The key's offset with its normalization folded in. -/
theorem fold_kb (j : Fin 128) : (StableHlo.after hostOps1 V (Proc.devRef .tc main_v71) : FVec Ideal S1x128 .f32) (ix2 (0 : Fin 1) j)
    = ((A.bk j * scl 10000 (A.k0f j) (A.gk j) + (A.betak j - mean 10000 (A.k0f j) * scl 10000 (A.k0f j) (A.gk j)) : ℝ) : EReal) := by
  after_reads_at
  have p : (0 : ℝ) < 10000 := by norm_num
  simp only [h.Wk, h.bk, h.gk, h.betak, e.gram, e.cols, c_1e4, c_two, c_eps, coe_gram A.feat, coe_sum_form A.feat]
  simp only [coe_mean_shift p Args.card1]
  simp only [coe_var_shift p Args.card1]
  simp only [coe_dev p]
  simp only [coe_scl p]
  simp only [← EReal.coe_mul, ← EReal.coe_add, ← EReal.coe_sub]
  rfl

omit e in
/-- The value projection's offset. -/
theorem fold_v (j : Fin 128) : (StableHlo.after hostOps1 V (Proc.devRef .tc main_v72) : FVec Ideal S1x128 .f32) (ix2 (0 : Fin 1) j) = ((A.bv j : ℝ) : EReal) := by
  after_reads_at
  exact h.bv j

end fold1

end Cert.KernelIdeal.Value
end
-- ==== Proof.Host2.lean ====
/-
  What the host operations around the last two launches leave, over the real numbers.
-/
module

public import proofs.«01_k».proof.Proof.Gen.KernelIdeal.Frame
public import proofs.«01_k».proof.Proof.Pre
public import proofs.«01_k».proof.Proof.Coe
public import Idealize.ShloMosaic.Lib.Pipeline.ValueKit
public import Idealize.ShloMosaic.Lib.StableHlo.ReadAt
public import proofs.«01_k».proof.Proof.Host

@[expose] public section

set_option maxRecDepth 16384

noncomputable section
open Idealize.ShloMosaic Idealize.ShloMosaic.TcCoe Idealize.SL.Sem
namespace Cert.KernelIdeal.Value
open Cert.KernelIdeal Cert.KernelIdeal.Gen Cert.Model Cert.Reads

variable {A : Args} {V : Valuation τ sig (Elt Ideal)}

/-- The relative position is the difference of the two coordinates. -/
theorem pos5_eq (A : Args) (r : Fin 10240) (s : Fin 16) (d : Fin 3) : A.coord (A.nb5 r s) d - A.coord (Args.lo r) d = A.pos5 r s d := rfl

section mid
variable (h : RepK A V) (p : Pad A V)
include h p

omit h in
/-- Coordinate 0 of the relative positions. -/
theorem mid_pos0 (r : Fin 10240) (s : Fin 16) : (StableHlo.after hostOps2 V (Proc.devRef .tc main_v85) : FVec Ideal S10240x16 .f32) (ix2 r s)
    = ((A.pos5 r s 0 : ℝ) : EReal) := by
  after_reads_at
  rw [ker_take3 p, p.coord, p.coord, ← EReal.coe_sub, Args.lo_up]
  rfl

omit h in
/-- Coordinate 1 of the relative positions. -/
theorem mid_pos1 (r : Fin 10240) (s : Fin 16) : (StableHlo.after hostOps2 V (Proc.devRef .tc main_v87) : FVec Ideal S10240x16 .f32) (ix2 r s)
    = ((A.pos5 r s 1 : ℝ) : EReal) := by
  after_reads_at
  rw [ker_take3 p, p.coord, p.coord, ← EReal.coe_sub, Args.lo_up]
  rfl

omit h in
/-- Coordinate 2 of the relative positions. -/
theorem mid_pos2 (r : Fin 10240) (s : Fin 16) : (StableHlo.after hostOps2 V (Proc.devRef .tc main_v89) : FVec Ideal S10240x16 .f32) (ix2 r s)
    = ((A.pos5 r s 2 : ℝ) : EReal) := by
  after_reads_at
  rw [ker_take3 p, p.coord, p.coord, ← EReal.coe_sub, Args.lo_up]
  rfl

/-- The key's part of the weight network's first layer, taken at the neighbours. -/
theorem mid_key (e : ∀ (n : Fin 10000) (g : Fin 8), (V (Proc.devRef .tc main_v73_2) : FVec Ideal S10240x8 .f32) (ix2 (up n) g) = ((∑ l, A.k n l * A.Ww1 l g : ℝ) : EReal))
    (r : Fin 10240) (s : Fin 16) (g : Fin 8) : (StableHlo.after hostOps2 V (Proc.devRef .tc main_v96) : FVec Ideal S10240x16x8 .f32) (ix3 r s g)
    = ((∑ l, A.k (A.nb5 r s) l * A.Ww1 l g : ℝ) : EReal) := by
  after_reads_at
  rw [ker_take8 p, e]

omit p in
/-- The position encoding's last matrix times the weight network's first. -/
theorem mid_mat (j : Fin 128) (g : Fin 8) : (StableHlo.after hostOps2 V (Proc.devRef .tc main_v137) : FVec Ideal S128x8 .f32) (ix2 j g)
    = ((∑ l, A.Wp2 j l * A.Ww1 l g : ℝ) : EReal) := by
  after_reads_at
  simp only [h.Wp2, h.Ww1, ← EReal.coe_mul, coe_sum]

omit p in
/-- The offset of the weight network's first layer. -/
theorem mid_off (g : Fin 8) : (StableHlo.after hostOps2 V (Proc.devRef .tc main_v140) : FVec Ideal S1x8 .f32) (ix2 (0 : Fin 1) g)
    = (((∑ l, A.bp2 l * A.Ww1 l g) + A.bw1 g : ℝ) : EReal) := by
  after_reads_at
  simp only [h.bp2, h.Ww1, h.bw1, ← EReal.coe_mul, ← EReal.coe_add, coe_sum]

/-- Row 0 of the position encoding's first matrix with its normalization folded in. -/
theorem mid_w0 (k : Fin 128) : (StableHlo.after hostOps2 V (Proc.devRef .tc main_v130) : FVec Ideal S1x128 .f32) (ix2 (0 : Fin 1) k)
    = ((A.Wp1 0 k * scl 160000 (A.p0f k) (A.gp k) : ℝ) : EReal) := by
  have z : (0 : ℝ) < 160000 := by norm_num
  after_reads_at
  simp only [hostReduceAdd_a01]
  pointwise
  simp only [ker_take3 p, p.coord, Args.lo_up, h.Wp1, h.bp1, h.gp, h.betap, c_16e4, c_two, c_eps]
  simp only [← EReal.coe_sub]
  simp only [pos5_eq, coe_pos_sum, coe_pos_gram, zero_add]
  simp only [coe_gram (fun (i : Fin 10000 × Fin 16) d => A.pos i.1 i.2 d), coe_sum_form (fun (i : Fin 10000 × Fin 16) d => A.pos i.1 i.2 d)]
  simp only [coe_mean_shift' z Args.card2]
  simp only [coe_var_shift' z Args.card2]
  simp only [coe_dev z]
  simp only [coe_scl z]
  simp only [← EReal.coe_mul, ← EReal.coe_add, ← EReal.coe_sub]
  rfl

/-- Row 1 of the position encoding's first matrix with its normalization folded in. -/
theorem mid_w1 (k : Fin 128) : (StableHlo.after hostOps2 V (Proc.devRef .tc main_v133) : FVec Ideal S1x128 .f32) (ix2 (0 : Fin 1) k)
    = ((A.Wp1 1 k * scl 160000 (A.p0f k) (A.gp k) : ℝ) : EReal) := by
  have z : (0 : ℝ) < 160000 := by norm_num
  after_reads_at
  simp only [hostReduceAdd_a01]
  pointwise
  simp only [ker_take3 p, p.coord, Args.lo_up, h.Wp1, h.bp1, h.gp, h.betap, c_16e4, c_two, c_eps]
  simp only [← EReal.coe_sub]
  simp only [pos5_eq, coe_pos_sum, coe_pos_gram, zero_add]
  simp only [coe_gram (fun (i : Fin 10000 × Fin 16) d => A.pos i.1 i.2 d), coe_sum_form (fun (i : Fin 10000 × Fin 16) d => A.pos i.1 i.2 d)]
  simp only [coe_mean_shift' z Args.card2]
  simp only [coe_var_shift' z Args.card2]
  simp only [coe_dev z]
  simp only [coe_scl z]
  simp only [← EReal.coe_mul, ← EReal.coe_add, ← EReal.coe_sub]
  rfl

/-- Row 2 of the position encoding's first matrix with its normalization folded in. -/
theorem mid_w2 (k : Fin 128) : (StableHlo.after hostOps2 V (Proc.devRef .tc main_v136) : FVec Ideal S1x128 .f32) (ix2 (0 : Fin 1) k)
    = ((A.Wp1 2 k * scl 160000 (A.p0f k) (A.gp k) : ℝ) : EReal) := by
  have z : (0 : ℝ) < 160000 := by norm_num
  after_reads_at
  simp only [hostReduceAdd_a01]
  pointwise
  simp only [ker_take3 p, p.coord, Args.lo_up, h.Wp1, h.bp1, h.gp, h.betap, c_16e4, c_two, c_eps]
  simp only [← EReal.coe_sub]
  simp only [pos5_eq, coe_pos_sum, coe_pos_gram, zero_add]
  simp only [coe_gram (fun (i : Fin 10000 × Fin 16) d => A.pos i.1 i.2 d), coe_sum_form (fun (i : Fin 10000 × Fin 16) d => A.pos i.1 i.2 d)]
  simp only [coe_mean_shift' z Args.card2]
  simp only [coe_var_shift' z Args.card2]
  simp only [coe_dev z]
  simp only [coe_scl z]
  simp only [← EReal.coe_mul, ← EReal.coe_add, ← EReal.coe_sub]
  rfl

/-- The position encoding's first offset with its normalization folded in. -/
theorem mid_b (k : Fin 128) : (StableHlo.after hostOps2 V (Proc.devRef .tc main_v141) : FVec Ideal S1x128 .f32) (ix2 (0 : Fin 1) k)
    = ((A.bp1 k * scl 160000 (A.p0f k) (A.gp k) + (A.betap k - mean 160000 (A.p0f k) * scl 160000 (A.p0f k) (A.gp k)) : ℝ) : EReal) := by
  have z : (0 : ℝ) < 160000 := by norm_num
  after_reads_at
  simp only [hostReduceAdd_a01]
  pointwise
  simp only [ker_take3 p, p.coord, Args.lo_up, h.Wp1, h.bp1, h.gp, h.betap, c_16e4, c_two, c_eps]
  simp only [← EReal.coe_sub]
  simp only [pos5_eq, coe_pos_sum, coe_pos_gram, zero_add]
  simp only [coe_gram (fun (i : Fin 10000 × Fin 16) d => A.pos i.1 i.2 d), coe_sum_form (fun (i : Fin 10000 × Fin 16) d => A.pos i.1 i.2 d)]
  simp only [coe_mean_shift' z Args.card2]
  simp only [coe_var_shift' z Args.card2]
  simp only [coe_dev z]
  simp only [coe_scl z]
  simp only [← EReal.coe_mul, ← EReal.coe_add, ← EReal.coe_sub]
  rfl

/-- The position encoding's first offset with its normalization folded in. -/
theorem mid_b1 (k : Fin 128) : (StableHlo.after hostOps2 V (Proc.devRef .tc main_v127) : FVec Ideal S128 .f32) (ix1 k)
    = ((A.bp1 k * scl 160000 (A.p0f k) (A.gp k) + (A.betap k - mean 160000 (A.p0f k) * scl 160000 (A.p0f k) (A.gp k)) : ℝ) : EReal) := by
  have z : (0 : ℝ) < 160000 := by norm_num
  after_reads_at
  simp only [hostReduceAdd_a01]
  pointwise
  simp only [ker_take3 p, p.coord, Args.lo_up, h.Wp1, h.bp1, h.gp, h.betap, c_16e4, c_two, c_eps]
  simp only [← EReal.coe_sub]
  simp only [pos5_eq, coe_pos_sum, coe_pos_gram, zero_add]
  simp only [coe_gram (fun (i : Fin 10000 × Fin 16) d => A.pos i.1 i.2 d), coe_sum_form (fun (i : Fin 10000 × Fin 16) d => A.pos i.1 i.2 d)]
  simp only [coe_mean_shift' z Args.card2]
  simp only [coe_var_shift' z Args.card2]
  simp only [coe_dev z]
  simp only [coe_scl z]
  simp only [← EReal.coe_mul, ← EReal.coe_add, ← EReal.coe_sub]
  rfl

end mid

section late
variable (h : RepK A V)
include h

/-- The factor of the weight network's normalization. -/
theorem late_scl (e1 : ∀ g : Fin 8, (V (Proc.devRef .tc main_v142_1) : FVec Ideal S1x8 .f32) (ix2 (0 : Fin 1) g) = ((∑ i, A.r0f g i : ℝ) : EReal))
    (e2 : ∀ g : Fin 8, (V (Proc.devRef .tc main_v142_2) : FVec Ideal S1x8 .f32) (ix2 (0 : Fin 1) g) = ((∑ i, A.r0f g i * A.r0f g i : ℝ) : EReal)) (g : Fin 8) :
    (StableHlo.after hostOps3 V (Proc.devRef .tc main_v157) : FVec Ideal S1x8 .f32) (ix2 (0 : Fin 1) g) = ((scl 160000 (A.r0f g) (A.gw g) : ℝ) : EReal) := by
  have z : (0 : ℝ) < 160000 := by norm_num
  after_reads_at
  simp only [e1, e2, h.gw, c_16e4, c_eps]
  simp only [coe_mean_r z (A.r0f g)]
  simp only [coe_var_r z Args.card2]
  simp only [coe_dev z]
  simp only [coe_scl z]

/-- The offset of the weight network's normalization. -/
theorem late_off (e1 : ∀ g : Fin 8, (V (Proc.devRef .tc main_v142_1) : FVec Ideal S1x8 .f32) (ix2 (0 : Fin 1) g) = ((∑ i, A.r0f g i : ℝ) : EReal))
    (e2 : ∀ g : Fin 8, (V (Proc.devRef .tc main_v142_2) : FVec Ideal S1x8 .f32) (ix2 (0 : Fin 1) g) = ((∑ i, A.r0f g i * A.r0f g i : ℝ) : EReal)) (g : Fin 8) :
    (StableHlo.after hostOps3 V (Proc.devRef .tc main_v158) : FVec Ideal S1x8 .f32) (ix2 (0 : Fin 1) g)
      = ((A.betaw g - mean 160000 (A.r0f g) * scl 160000 (A.r0f g) (A.gw g) : ℝ) : EReal) := by
  have z : (0 : ℝ) < 160000 := by norm_num
  after_reads_at
  simp only [e1, e2, h.gw, h.betaw, c_16e4, c_eps]
  simp only [coe_mean_r z (A.r0f g)]
  simp only [coe_var_r z Args.card2]
  simp only [coe_dev z]
  simp only [coe_scl z]
  simp only [← EReal.coe_mul, ← EReal.coe_add, ← EReal.coe_sub]

/-- The offset of the weight network's last layer. -/
theorem late_bw (g : Fin 8) : (StableHlo.after hostOps3 V (Proc.devRef .tc main_v159) : FVec Ideal S1x8 .f32) (ix2 (0 : Fin 1) g) = ((A.bw2 g : ℝ) : EReal) := by
  after_reads_at
  exact h.bw2 g

/-- The offset of the position encoding's last layer. -/
theorem late_bp (j : Fin 128) : (StableHlo.after hostOps3 V (Proc.devRef .tc main_v161) : FVec Ideal S1x128 .f32) (ix2 (0 : Fin 1) j) = ((A.bp2 j : ℝ) : EReal) := by
  after_reads_at
  exact h.bp2 j

omit h in
/-- The position encoding's first offset, as one row. -/
theorem late_b (j : Fin 128) : (StableHlo.after hostOps3 V (Proc.devRef .tc main_v160) : FVec Ideal S1x128 .f32) (ix2 (0 : Fin 1) j)
    = (V (Proc.devRef .tc main_v127) : FVec Ideal S128 .f32) (ix1 j) := by
  after_reads_at

end late

/-- The result: the third launch's rows and the weighted sum of the neighbours' values. -/
theorem last_out (p : Pad A V)
    (ev : ∀ (n : Fin 10000) (j : Fin 128), (V (Proc.devRef .tc main_v73_0) : FVec Ideal S10240x128 .f32) (ix2 (up n) j) = ((A.v n j : ℝ) : EReal))
    (ew : ∀ (n : Fin 10000) (s : Fin 16) (g : Fin 8), (V (Proc.devRef .tc main_v162_1) : FVec Ideal S10240x16x8 .f32) (ix3 (up n) s g) = ((A.sm n s g : ℝ) : EReal))
    (eo : ∀ (n : Fin 10000) (j : Fin 128), (V (Proc.devRef .tc main_v162_0) : FVec Ideal S10240x128 .f32) (ix2 (up n) j)
      = (((∑ l, (∑ s, A.sm n s (Args.grp j) * A.h n s l) * A.Wp2 l j) + (∑ s, A.sm n s (Args.grp j)) * A.bp2 j : ℝ) : EReal))
    (n : Fin 10000) (j : Fin 128) : (StableHlo.after hostOps4 V (Proc.devRef .tc main_v174) : FVec Ideal S10000x128 .f32) (ix2 n j) = ((A.out n j : ℝ) : EReal) := by
  after_reads_at
  have u : ∀ hn : n.val < 10240, (⟨n.val, hn⟩ : Fin 10240) = up n := fun _ => rfl
  have f : ∀ hf : j.val / 16 * 16 + j.val % 16 < 128, (⟨j.val / 16 * 16 + j.val % 16, hf⟩ : Fin 128) = j := fun _ => Fin.ext (by show j.val / 16 * 16 + j.val % 16 = j.val; omega)
  have g : ∀ hg : j.val / 16 < 8, (⟨j.val / 16, hg⟩ : Fin 8) = Args.grp j := fun _ => rfl
  simp only [u, f, g, ker_take128 p, ev, ew, eo, Args.nb5_up]
  simp only [← EReal.coe_mul, ← EReal.coe_add, coe_sum]
  rw [A.out_split]

end Cert.KernelIdeal.Value
end
-- ==== Proof.Region0.lean ====
/-
  What the statistics launch leaves: the Gram matrix of the padded features and their column sums,
  both summed over all 10240 rows.
-/
module

public import proofs.«01_k».proof.Proof.Gen.KernelIdeal.Frame
public import proofs.«01_k».proof.Proof.Reads
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- The Gram matrix of the rows. -/
def gramOf (X : FVec Ideal S10240x128 .f32) : FVec Ideal S128x128 .f32 :=
  fun j => ∑ l : Fin 10240, X (ix2 l (j 0)) * X (ix2 l (j 1))

/-- The column sums, as one row. -/
def colsOf (X : FVec Ideal S10240x128 .f32) : FVec Ideal S1x128 .f32 :=
  fun j => ∑ l : Fin 10240, X (ix2 l (j 1))

/-- The block placements of the statistics launch. -/
theorem r0_idx : ∀ t : Fin cfg0.N, win0_0.index t = ![t.val, 0] ∧ win0_1.index t = ![0, 0] ∧ win0_2.index t = ![0, 0] :=
  (by decide +kernel : ∀ t : Fin grid0.N, _)

/-- The Gram accumulator starts at zero. -/
theorem r0_z1 (j) : k0_pay1 (F := Ideal) j = 0 := by pointwise [k0_pay1]
/-- The column sums start at zero. -/
theorem r0_z2 (j) : k0_pay2 (F := Ideal) j = 0 := by pointwise [k0_pay2]
/-- One block's addition to the Gram matrix. -/
theorem r0_p4 (x : FVec Ideal S1024x128 .f32) (acc : FVec Ideal S128x128 .f32) (j) :
    k0_pay4 x acc j = acc j + ∑ k : Fin 1024, x (ix2 k (j 0)) * x (ix2 k (j 1)) := by pointwise [k0_pay4, k0_pay3]
/-- One block's addition to the column sums. -/
theorem r0_p5 (x : FVec Ideal S1024x128 .f32) (acc : FVec Ideal S1x128 .f32) (j) :
    k0_pay5 x acc j = acc j + ∑ k : Fin 1024, x (ix2 k (j 1)) := by pointwise [k0_pay5, k0_pay3]

/-- The Gram matrix after the launch. -/
theorem r0_gram (c : Dev nD) : (dat0 V c).arrAt 1 cfg0.N = gramOf (V c main_v0) := by
  refine (dat0 V c).arrAt_eq_of_covers 1 _ (by decide +kernel) fun t hf y => ?_
  blk_simp
  rw [after0_1, Pipeline.eq_sum_fin_of_reset_step_apply_of_flush (fun n h => (outsAt0 V c n h).1) 10 (fun _ => 0) _
    (fun t h j => by rw [outsAt0_A V c t h]; frame_out; rw [r0_p4, r0_z1]) (fun t h j => by rw [outsAt0_B V c t h]; frame_out; rw [r0_p4])
    t ((flush0_1 t).mp hf) _, zero_add]
  unfold gramOf
  refine Fin.sum_mul_add_congr fun s k hl => ?_
  have hi := r0_idx ⟨_, Pipeline.run_point_lt_of_flush t ((flush0_1 t).mp hf) s⟩
  have h1 := r0_idx t
  blk_point [iblk0, h1, hi]

/-- The column sums after the launch. -/
theorem r0_cols (c : Dev nD) : (dat0 V c).arrAt 2 cfg0.N = colsOf (V c main_v0) := by
  refine (dat0 V c).arrAt_eq_of_covers 2 _ (by decide +kernel) fun t hf y => ?_
  blk_simp
  rw [after0_2, Pipeline.eq_sum_fin_of_reset_step_apply_of_flush (fun n h => (outsAt0 V c n h).2) 10 (fun _ => 0) _
    (fun t h j => by rw [outsAt0_A V c t h]; frame_out; rw [r0_p5, r0_z2]) (fun t h j => by rw [outsAt0_B V c t h]; frame_out; rw [r0_p5])
    t ((flush0_2 t).mp hf) _, zero_add]
  unfold colsOf
  refine Fin.sum_mul_add_congr fun s k hl => ?_
  have hi := r0_idx ⟨_, Pipeline.run_point_lt_of_flush t ((flush0_2 t).mp hf) s⟩
  have h1 := r0_idx t
  blk_point [iblk0, h1, hi]

end Cert.KernelIdeal.Value
end
-- ==== Proof.Region1.lean ====
/-
  What the projection launch leaves: the value projection, and the query and key projections already
  contracted with the weight layer.
-/
module

public import proofs.«01_k».proof.Proof.Gen.KernelIdeal.Frame
public import proofs.«01_k».proof.Proof.Reads
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)
namespace Cert.KernelIdeal.Value
open Cert.KernelIdeal Cert.KernelIdeal.Gen

variable (V : (c : Dev nD) → (b : Ref sig .tc) → Buf (Elt Ideal) ((c : Thread nD τ).loc b))

/-- A row times a matrix plus a row of offsets. -/
def linOf (X : FVec Ideal S10240x128 .f32) (W : FVec Ideal S128x128 .f32) (b : FVec Ideal S1x128 .f32) : FVec Ideal S10240x128 .f32 :=
  fun j => (∑ k : Fin 128, X (ix2 (j 0) k) * W (ix2 k (j 1))) + b (ix2 (0 : Fin 1) (j 1))

/-- The clamped projection contracted with a 128 by 8 matrix. -/
def mixOf (X : FVec Ideal S10240x128 .f32) (W : FVec Ideal S128x128 .f32) (b : FVec Ideal S1x128 .f32) (U : FVec Ideal S128x8 .f32) : FVec Ideal S10240x8 .f32 :=
  fun j => ∑ l : Fin 128, max ((∑ k : Fin 128, X (ix2 (j 0) k) * W (ix2 k l)) + b (ix2 (0 : Fin 1) l)) 0 * U (ix2 l (j 1))

/-- The block placements of the projection launch. -/
theorem r1_idx : ∀ t : Fin cfg1.N, win1_0.index t = ![t.val, 0] ∧ win1_1.index t = ![0, 0] ∧ win1_2.index t = ![0, 0]
    ∧ win1_3.index t = ![0, 0] ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] :=
  (by decide +kernel : ∀ t : Fin grid1.N, _)

/-- The value projection after the launch. -/
theorem r1_v (c : Dev nD) : (dat1 V c).arrAt 8 cfg1.N = linOf (V c main_v0) (V c main_arg11) (V c main_v72) := by
  refine (dat1 V c).arrAt_eq_of_covers 8 _ (by decide +kernel) fun t hf y => ?_
  blk_simp
  rw [after1_8]; frame_out
  pointwise [linOf, k1_pay1, k1_pay5, k1_pay6, k1_pay2]
  have h1 := r1_idx t
  blk_point [iblk1, h1]

/-- The contracted query projection after the launch. -/
theorem r1_qw (c : Dev nD) : (dat1 V c).arrAt 9 cfg1.N = mixOf (V c main_v0) (V c main_v36) (V c main_v39) (V c main_arg19) := by
  refine (dat1 V c).arrAt_eq_of_covers 9 _ (by decide +kernel) fun t hf y => ?_
  blk_simp
  rw [after1_9]; frame_out
  pointwise [mixOf, k1_pay3, k1_pay2]
  have h1 := r1_idx t
  blk_point [iblk1, h1]

/-- The contracted key projection after the launch. -/
theorem r1_kw (c : Dev nD) : (dat1 V c).arrAt 10 cfg1.N = mixOf (V c main_v0) (V c main_v68) (V c main_v71) (V c main_arg19) := by
  refine (dat1 V c).arrAt_eq_of_covers 10 _ (by decide +kernel) fun t hf y => ?_
  blk_simp
  rw [after1_10]; frame_out
  pointwise [mixOf, k1_pay4, k1_pay2]
  have h1 := r1_idx t
  blk_point [iblk1, h1]

end Cert.KernelIdeal.Value
end
-- ==== Proof.Launch.lean ====
/-
  What the four launches leave, over the real numbers.
-/
module

public import proofs.«01_k».proof.Proof.Gen.KernelIdeal.Frame
public import proofs.«01_k».proof.Proof.Pre
public import proofs.«01_k».proof.Proof.Coe
public import Idealize.ShloMosaic.Lib.Pipeline.ValueKit
public import Idealize.ShloMosaic.Lib.StableHlo.ReadAt
public import proofs.«01_k».proof.Proof.Region0
public import proofs.«01_k».proof.Proof.Region1
public import proofs.«01_k».proof.Proof.Region2
public import proofs.«01_k».proof.Proof.Region3

@[expose] public section

set_option maxRecDepth 16384

noncomputable section
open Idealize.ShloMosaic Idealize.ShloMosaic.TcCoe Idealize.SL.Sem
namespace Cert.KernelIdeal.Value
open Cert.KernelIdeal Cert.KernelIdeal.Gen Cert.Model Cert.Reads

variable {A : Args}

/-- The rectifier of a real number. -/
theorem max0 (a : ℝ) : max (a : EReal) 0 = ((max a 0 : ℝ) : EReal) := max_real a 0

section points
variable {X : FVec Ideal S10240x128 .f32} (ex : ∀ (n : Fin 10000) (j : Fin 128), X (ix2 (up n) j) = ((A.feat n j : ℝ) : EReal))
include ex

/-- The Gram matrix of the features: the added rows are zero. -/
theorem gram_real (ez : ∀ (r : Fin 10240) (j : Fin 128), 10000 ≤ r.val → X (ix2 r j) = 0) (k l : Fin 128) :
    gramOf X (ix2 k l) = ((∑ n, A.feat n k * A.feat n l : ℝ) : EReal) := by
  show ∑ r : Fin 10240, X (ix2 r k) * X (ix2 r l) = _
  rw [sum_pad _ fun r hr => by rw [ez r k hr, zero_mul]]
  simp only [ex, ← EReal.coe_mul, coe_sum]

/-- The column sums of the features. -/
theorem cols_real (ez : ∀ (r : Fin 10240) (j : Fin 128), 10000 ≤ r.val → X (ix2 r j) = 0) (k : Fin 128) :
    colsOf X (ix2 (0 : Fin 1) k) = ((∑ n, A.feat n k : ℝ) : EReal) := by
  show ∑ r : Fin 10240, X (ix2 r k) = _
  rw [sum_pad _ fun r hr => ez r k hr]
  simp only [ex, coe_sum]

/-- The value projection. -/
theorem lin_real {W : FVec Ideal S128x128 .f32} {b : FVec Ideal S1x128 .f32} (ew : ∀ k j : Fin 128, W (ix2 k j) = ((A.Wv k j : ℝ) : EReal))
    (eb : ∀ j : Fin 128, b (ix2 (0 : Fin 1) j) = ((A.bv j : ℝ) : EReal)) (n : Fin 10000) (j : Fin 128) :
    linOf X W b (ix2 (up n) j) = ((A.v n j : ℝ) : EReal) := by
  show (∑ k : Fin 128, X (ix2 (up n) k) * W (ix2 k j)) + b (ix2 (0 : Fin 1) j) = _
  simp only [ex, ew, eb, ← EReal.coe_mul, ← EReal.coe_add, coe_sum]
  rfl

/-- A normalized and clamped projection contracted with the weight network's first matrix. -/
theorem mix_real {W : FVec Ideal S128x128 .f32} {b : FVec Ideal S1x128 .f32} {U : FVec Ideal S128x8 .f32}
    (w : Fin 128 → Fin 128 → ℝ) (o g e : Fin 128 → ℝ)
    (ew : ∀ k j : Fin 128, W (ix2 k j) = ((w k j * scl 10000 (fun n => (∑ l, A.feat n l * w l j) + o j) (g j) : ℝ) : EReal))
    (eb : ∀ j : Fin 128, b (ix2 (0 : Fin 1) j) = ((o j * scl 10000 (fun n => (∑ l, A.feat n l * w l j) + o j) (g j)
      + (e j - mean 10000 (fun n => (∑ l, A.feat n l * w l j) + o j) * scl 10000 (fun n => (∑ l, A.feat n l * w l j) + o j) (g j)) : ℝ) : EReal))
    (eu : ∀ (l : Fin 128) (i : Fin 8), U (ix2 l i) = ((A.Ww1 l i : ℝ) : EReal)) (n : Fin 10000) (i : Fin 8) :
    mixOf X W b U (ix2 (up n) i) = ((∑ l, max (bn 10000 (fun n => (∑ k, A.feat n k * w k l) + o l) (g l) (e l) n) 0 * A.Ww1 l i : ℝ) : EReal) := by
  show ∑ l : Fin 128, max ((∑ k : Fin 128, X (ix2 (up n) k) * W (ix2 k l)) + b (ix2 (0 : Fin 1) l)) 0 * U (ix2 l i) = _
  simp only [ex, ew, eb, eu, ← EReal.coe_mul, ← EReal.coe_add, coe_sum]
  simp only [bn_mix 10000 A.feat, max0, ← EReal.coe_mul, coe_sum]

end points

section hidden
variable {px py pz : FVec Ideal S10240x16 .f32} {wx wy wz b : FVec Ideal S1x128 .f32}
  (e0 : ∀ r s, px (ix2 r s) = ((A.pos5 r s 0 : ℝ) : EReal)) (e1 : ∀ r s, py (ix2 r s) = ((A.pos5 r s 1 : ℝ) : EReal)) (e2 : ∀ r s, pz (ix2 r s) = ((A.pos5 r s 2 : ℝ) : EReal))
  (w0 : ∀ k : Fin 128, wx (ix2 (0 : Fin 1) k) = ((A.Wp1 0 k * scl 160000 (A.p0f k) (A.gp k) : ℝ) : EReal))
  (w1 : ∀ k : Fin 128, wy (ix2 (0 : Fin 1) k) = ((A.Wp1 1 k * scl 160000 (A.p0f k) (A.gp k) : ℝ) : EReal))
  (w2 : ∀ k : Fin 128, wz (ix2 (0 : Fin 1) k) = ((A.Wp1 2 k * scl 160000 (A.p0f k) (A.gp k) : ℝ) : EReal))
  (eb : ∀ k : Fin 128, b (ix2 (0 : Fin 1) k) = ((A.bp1 k * scl 160000 (A.p0f k) (A.gp k) + (A.betap k - mean 160000 (A.p0f k) * scl 160000 (A.p0f k) (A.gp k)) : ℝ) : EReal))
include e0 e1 e2 w0 w1 w2 eb

/-- The position encoding's hidden layer. -/
theorem hid_real (n : Fin 10000) (s : Fin 16) (k : Fin 128) : hidOf px py pz wx wy wz b (up n) s k = ((A.h n s k : ℝ) : EReal) := by
  unfold hidOf
  rw [e0, e1, e2, w0, w1, w2, eb]
  simp only [Args.pos5_up, ← EReal.coe_mul, ← EReal.coe_add, max0]
  have m := bn_mix 160000 (fun (i : Fin 10000 × Fin 16) d => A.pos i.1 i.2 d) (fun d => A.Wp1 d k) (A.bp1 k) (A.gp k) (A.betap k) (n, s)
  rw [Fin.sum_univ_three] at m
  exact congrArg (fun t : ℝ => ((max t 0 : ℝ) : EReal)) m

/-- The weight network's first layer. -/
theorem x_real {kg : FVec Ideal S10240x16x8 .f32} {qw : FVec Ideal S10240x8 .f32} {U : FVec Ideal S128x8 .f32} {cw : FVec Ideal S1x8 .f32}
    (ek : ∀ r s g, kg (ix3 r s g) = ((∑ l, A.k (A.nb5 r s) l * A.Ww1 l g : ℝ) : EReal))
    (eq : ∀ n g, qw (ix2 (up n) g) = ((∑ l, A.q n l * A.Ww1 l g : ℝ) : EReal))
    (eu : ∀ j g, U (ix2 j g) = ((∑ l, A.Wp2 j l * A.Ww1 l g : ℝ) : EReal))
    (ec : ∀ g : Fin 8, cw (ix2 (0 : Fin 1) g) = (((∑ l, A.bp2 l * A.Ww1 l g) + A.bw1 g : ℝ) : EReal))
    (n : Fin 10000) (s : Fin 16) (g : Fin 8) : xOf px py pz kg qw wx wy wz b U cw (up n) s g = ((A.r0 n s g : ℝ) : EReal) := by
  unfold xOf
  simp only [hid_real e0 e1 e2 w0 w1 w2 eb, ek, eq, eu, ec, Args.nb5_up, ← EReal.coe_mul, ← EReal.coe_add, ← EReal.coe_sub, coe_sum]
  rw [A.r0_split]

end hidden

/-- A sum over the pairs of a point and a neighbour, masked to the real points. -/
theorem pair_sum {x : Fin 10240 → Fin 16 → EReal} {y : Fin 10000 × Fin 16 → ℝ} (e : ∀ n s, x (up n) s = ((y (n, s) : ℝ) : EReal)) :
    (∑ n : Fin 10240, ∑ s : Fin 16, (if n.val < 10000 then x n s else 0)) = ((∑ i, y i : ℝ) : EReal) := by
  rw [sum_pad _ fun n hn => Finset.sum_eq_zero fun s _ => if_neg (by omega), Fintype.sum_prod_type]
  simp only [← coe_sum]
  exact Finset.sum_congr rfl fun n _ => Finset.sum_congr rfl fun s _ => (if_pos (show (up n).val < 10000 from n.isLt)).trans (e n s)

/-- The same for the squares. -/
theorem pair_sq {x : Fin 10240 → Fin 16 → EReal} {y : Fin 10000 × Fin 16 → ℝ} (e : ∀ n s, x (up n) s = ((y (n, s) : ℝ) : EReal)) :
    (∑ n : Fin 10240, ∑ s : Fin 16, (if n.val < 10000 then x n s else 0) * (if n.val < 10000 then x n s else 0)) = ((∑ i, y i * y i : ℝ) : EReal) := by
  rw [← pair_sum (x := fun n s => x n s * x n s) (y := fun i => y i * y i) fun n s => by rw [e, EReal.coe_mul]]
  refine Finset.sum_congr rfl fun n _ => Finset.sum_congr rfl fun s _ => ?_
  split
  · rfl
  · exact zero_mul 0

/-- The softmax weights. -/
theorem sm_real {x : FVec Ideal S10240x16x8 .f32} {sW tW : FVec Ideal S1x8 .f32} {W : FVec Ideal S8x8 .f32} {b : FVec Ideal S1x8 .f32}
    (ex : ∀ n s g, x (ix3 (up n) s g) = ((A.r0 n s g : ℝ) : EReal))
    (es : ∀ g : Fin 8, sW (ix2 (0 : Fin 1) g) = ((scl 160000 (A.r0f g) (A.gw g) : ℝ) : EReal))
    (et : ∀ g : Fin 8, tW (ix2 (0 : Fin 1) g) = ((A.betaw g - mean 160000 (A.r0f g) * scl 160000 (A.r0f g) (A.gw g) : ℝ) : EReal))
    (ew : ∀ k g : Fin 8, W (ix2 k g) = ((A.Ww2 k g : ℝ) : EReal))
    (eb : ∀ g : Fin 8, b (ix2 (0 : Fin 1) g) = ((A.bw2 g : ℝ) : EReal))
    (n : Fin 10000) (s : Fin 16) (g : Fin 8) : smOf (n := 10240) x sW tW W b (up n) s g = ((A.sm n s g : ℝ) : EReal) := by
  have hl : ∀ s g, lgOf (n := 10240) x sW tW W b (up n) s g = ((A.lg n s g : ℝ) : EReal) := fun s g => by
    unfold lgOf
    have hk : ∀ k : Fin 8, max (x (ix3 (up n) s k) * sW (ix2 (0 : Fin 1) k) + tW (ix2 (0 : Fin 1) k)) 0 = ((A.w n s k : ℝ) : EReal) := fun k => by
      rw [ex, es, et, ← EReal.coe_mul, ← EReal.coe_add, max0]
      exact congrArg (fun t : ℝ => ((max t 0 : ℝ) : EReal)) (bn_fold 160000 (A.r0f k) (A.gw k) (A.betaw k) (n, s))
    simp only [hk, ew, eb, ← EReal.coe_mul, ← EReal.coe_add, coe_sum]
    rfl
  have he : ∀ s g, exOf (n := 10240) x sW tW W b (up n) s g = ((A.ex n s g : ℝ) : EReal) := fun s g => by
    unfold exOf
    simp only [hl, fold_max (n := 15), ← EReal.coe_sub]
    rfl
  unfold smOf
  simp only [he, coe_sum]
  rw [div_real _ _ (A.ex_sum_ne n g)]
  rfl

end Cert.KernelIdeal.Value
end
-- ==== Proof.Chain.lean ====
/-
  The kernel's result over the real numbers.
-/
module

public import proofs.«01_k».proof.Proof.Gen.KernelIdeal.Frame
public import proofs.«01_k».proof.Proof.Pre
public import proofs.«01_k».proof.Proof.Coe
public import Idealize.ShloMosaic.Lib.Pipeline.ValueKit
public import Idealize.ShloMosaic.Lib.StableHlo.ReadAt
public import proofs.«01_k».proof.Proof.Region2b
public import proofs.«01_k».proof.Proof.Region3b
public import proofs.«01_k».proof.Proof.Host2
public import proofs.«01_k».proof.Proof.Launch

@[expose] public section

set_option maxRecDepth 16384

noncomputable section
open Idealize.ShloMosaic Idealize.ShloMosaic.TcCoe Idealize.SL.Sem
namespace Cert.KernelIdeal.Value
open Cert.KernelIdeal Cert.KernelIdeal.Gen Cert.Model Cert.Reads

/-- Contents that agree on the arguments hold the same real arguments. -/
theorem rep_of {A : Args} {V V' : Valuation τ sig (Elt Ideal)} (h : RepK A V)
    (e : ∀ a ∈ argRefs, V' (Proc.devRef .tc a) = V (Proc.devRef .tc a)) : RepK A V' := by
  unfold RepK
  rw [e main_arg0 (by decide), e main_arg1 (by decide), e main_arg2 (by decide), e main_arg3 (by decide), e main_arg4 (by decide), e main_arg5 (by decide), e main_arg6 (by decide), e main_arg7 (by decide), e main_arg8 (by decide), e main_arg9 (by decide), e main_arg10 (by decide), e main_arg11 (by decide), e main_arg12 (by decide), e main_arg13 (by decide), e main_arg14 (by decide), e main_arg15 (by decide), e main_arg16 (by decide), e main_arg17 (by decide), e main_arg18 (by decide), e main_arg19 (by decide), e main_arg20 (by decide), e main_arg21 (by decide), e main_arg22 (by decide), e main_arg23 (by decide), e main_arg24 (by decide)]
  exact h

/-- Contents that agree on the padded arrays. -/
theorem pad_trans {A : Args} {V V' : Valuation τ sig (Elt Ideal)} (p : Pad A V) (e0 : V' (Proc.devRef .tc main_v0) = V (Proc.devRef .tc main_v0))
    (e4 : V' (Proc.devRef .tc main_v4) = V (Proc.devRef .tc main_v4)) (e5 : V' (Proc.devRef .tc main_v5) = V (Proc.devRef .tc main_v5)) : Pad A V' where
  feat n j := (congrFun e0 _).trans (p.feat n j)
  zero r j hr := (congrFun e0 _).trans (p.zero r j hr)
  coord r d := (congrFun e4 _).trans (p.coord r d)
  nb r s := (congrFun e5 _).trans (p.nb r s)

variable (m : (ℓ : Loc nD τ sig) → Buf (Elt Ideal) ℓ) (ρ : Dev nD → PrngReg) (c : Dev nD) {A : Args} (h : RepK A (W0 m ρ c))
include h

/-- The arguments still hold the real arrays at boundary 4. -/
theorem rep4 : RepK A (W4 m ρ c) := rep_of h fun a ha => (W4_args m ρ c a ha).trans (W0_args m ρ c a ha).symm
/-- The arguments still hold the real arrays at boundary 5. -/
theorem rep5 : RepK A (W5 m ρ c) := rep_of h fun a ha => (W5_args m ρ c a ha).trans (W0_args m ρ c a ha).symm
/-- The arguments still hold the real arrays at boundary 6. -/
theorem rep6 : RepK A (W6 m ρ c) := rep_of h fun a ha => (W6_args m ρ c a ha).trans (W0_args m ρ c a ha).symm
/-- The arguments still hold the real arrays at boundary 7. -/
theorem rep7 : RepK A (W7 m ρ c) := rep_of h fun a ha => (W7_args m ρ c a ha).trans (W0_args m ρ c a ha).symm
/-- The arguments still hold the real arrays at boundary 9. -/
theorem rep9 : RepK A (W9 m ρ c) := rep_of h fun a ha => (W9_args m ρ c a ha).trans (W0_args m ρ c a ha).symm
/-- The arguments still hold the real arrays at boundary 11. -/
theorem rep11 : RepK A (W11 m ρ c) := rep_of h fun a ha => (W11_args m ρ c a ha).trans (W0_args m ρ c a ha).symm

/-- The padded arrays at every boundary that reads them. -/
theorem pad4 : Pad A (W4 m ρ c) := pad_of h
/-- The padded arrays are unchanged at boundary 5. -/
theorem pad5 : Pad A (W5 m ρ c) := pad_trans (pad4 m ρ c h) (W5_of m ρ c main_v0 (by decide +kernel)) (W5_of m ρ c main_v4 (by decide +kernel)) (W5_of m ρ c main_v5 (by decide +kernel))
/-- The padded arrays are unchanged at boundary 6. -/
theorem pad6 : Pad A (W6 m ρ c) := pad_trans (pad5 m ρ c h) (W6_of m ρ c main_v0 (by decide)) (W6_of m ρ c main_v4 (by decide)) (W6_of m ρ c main_v5 (by decide))
/-- The padded arrays are unchanged at boundary 7. -/
theorem pad7 : Pad A (W7 m ρ c) := pad_trans (pad6 m ρ c h) (W7_of m ρ c main_v0 (by decide +kernel)) (W7_of m ρ c main_v4 (by decide +kernel)) (W7_of m ρ c main_v5 (by decide +kernel))
/-- The padded arrays are unchanged at boundary 8. -/
theorem pad8 : Pad A (W8 m ρ c) := pad_trans (pad7 m ρ c h) (W8_of m ρ c main_v0 (by decide)) (W8_of m ρ c main_v4 (by decide)) (W8_of m ρ c main_v5 (by decide))
/-- The padded arrays are unchanged at boundary 9. -/
theorem pad9 : Pad A (W9 m ρ c) := pad_trans (pad8 m ρ c h) (W9_of m ρ c main_v0 (by decide +kernel)) (W9_of m ρ c main_v4 (by decide +kernel)) (W9_of m ρ c main_v5 (by decide +kernel))
/-- The padded arrays are unchanged at boundary 10. -/
theorem pad10 : Pad A (W10 m ρ c) := pad_trans (pad9 m ρ c h) (W10_of m ρ c main_v0 (by decide)) (W10_of m ρ c main_v4 (by decide)) (W10_of m ρ c main_v5 (by decide))
/-- The padded arrays are unchanged at boundary 11. -/
theorem pad11 : Pad A (W11 m ρ c) := pad_trans (pad10 m ρ c h) (W11_of m ρ c main_v0 (by decide +kernel)) (W11_of m ρ c main_v4 (by decide +kernel)) (W11_of m ρ c main_v5 (by decide +kernel))

/-- The statistics of the features. -/
theorem stat5 : Stat A (W5 m ρ c) where
  gram k l := (congrFun ((W5_arr m ρ c 1).trans (r0_gram (V4 m ρ) c)) (ix2 k l)).trans (gram_real (pad4 m ρ c h).feat (pad4 m ρ c h).zero k l)
  cols k := (congrFun ((W5_arr m ρ c 2).trans (r0_cols (V4 m ρ) c)) (ix2 (0 : Fin 1) k)).trans (cols_real (pad4 m ρ c h).feat (pad4 m ρ c h).zero k)

/-- The value projection. -/
theorem v7 (n : Fin 10000) (j : Fin 128) : (W7 m ρ c (Proc.devRef .tc main_v73_0) : FVec Ideal S10240x128 .f32) (ix2 (up n) j) = ((A.v n j : ℝ) : EReal) :=
  (congrFun ((W7_arr m ρ c 8).trans (r1_v (V6 m ρ) c)) (ix2 (up n) j)).trans
    (lin_real (pad6 m ρ c h).feat (rep6 m ρ c h).Wv (fold_v (rep5 m ρ c h)) n j)

/-- The query's and the key's part of the weight network's first layer. -/
theorem q7 (n : Fin 10000) (g : Fin 8) : (W7 m ρ c (Proc.devRef .tc main_v73_1) : FVec Ideal S10240x8 .f32) (ix2 (up n) g) = ((∑ l, A.q n l * A.Ww1 l g : ℝ) : EReal) :=
  (congrFun ((W7_arr m ρ c 9).trans (r1_qw (V6 m ρ) c)) (ix2 (up n) g)).trans
    (mix_real (pad6 m ρ c h).feat A.Wq A.bq A.gq A.betaq (fold_qW (rep5 m ρ c h) (stat5 m ρ c h)) (fold_qb (rep5 m ρ c h) (stat5 m ρ c h)) (rep6 m ρ c h).Ww1 n g)
/-- The key's part of the weight network's first layer. -/
theorem k7 (n : Fin 10000) (g : Fin 8) : (W7 m ρ c (Proc.devRef .tc main_v73_2) : FVec Ideal S10240x8 .f32) (ix2 (up n) g) = ((∑ l, A.k n l * A.Ww1 l g : ℝ) : EReal) :=
  (congrFun ((W7_arr m ρ c 10).trans (r1_kw (V6 m ρ) c)) (ix2 (up n) g)).trans
    (mix_real (pad6 m ρ c h).feat A.Wk A.bk A.gk A.betak (fold_kW (rep5 m ρ c h) (stat5 m ρ c h)) (fold_kb (rep5 m ρ c h) (stat5 m ρ c h)) (rep6 m ρ c h).Ww1 n g)

/-- The weight network's first layer. -/
theorem x8 (n : Fin 10000) (s : Fin 16) (g : Fin 8) :
    xOf (V8 m ρ c main_v85) (V8 m ρ c main_v87) (V8 m ρ c main_v89) (V8 m ρ c main_v96) (V8 m ρ c main_v73_1)
      (V8 m ρ c main_v130) (V8 m ρ c main_v133) (V8 m ρ c main_v136) (V8 m ρ c main_v141) (V8 m ρ c main_v137) (V8 m ρ c main_v140) (up n) s g = ((A.r0 n s g : ℝ) : EReal) :=
  x_real (mid_pos0 (pad7 m ρ c h)) (mid_pos1 (pad7 m ρ c h)) (mid_pos2 (pad7 m ρ c h))
    (mid_w0 (rep7 m ρ c h) (pad7 m ρ c h)) (mid_w1 (rep7 m ρ c h) (pad7 m ρ c h)) (mid_w2 (rep7 m ρ c h) (pad7 m ρ c h)) (mid_b (rep7 m ρ c h) (pad7 m ρ c h))
    (mid_key (rep7 m ρ c h) (pad7 m ρ c h) (k7 m ρ c h))
    (fun n g => (congrFun (W8_of m ρ c main_v73_1 (by decide)) _).trans (q7 m ρ c h n g))
    (mid_mat (rep7 m ρ c h)) (mid_off (rep7 m ρ c h)) n s g

/-- The same after the launch, with its sum and its sum of squares. -/
theorem x9 (n : Fin 10000) (s : Fin 16) (g : Fin 8) : (W9 m ρ c (Proc.devRef .tc main_v142_0) : FVec Ideal S10240x16x8 .f32) (ix3 (up n) s g) = ((A.r0 n s g : ℝ) : EReal) :=
  (congrFun ((W9_arr m ρ c 11).trans (r2_x (V8 m ρ) c)) (ix3 (up n) s g)).trans (x8 m ρ c h n s g)
/-- The sum of the weight network's first layer over the real pairs. -/
theorem xs9 (g : Fin 8) : (W9 m ρ c (Proc.devRef .tc main_v142_1) : FVec Ideal S1x8 .f32) (ix2 (0 : Fin 1) g) = ((∑ i, A.r0f g i : ℝ) : EReal) :=
  (congrFun ((W9_arr m ρ c 12).trans (r2_xs (V8 m ρ) c)) (ix2 (0 : Fin 1) g)).trans (pair_sum (y := A.r0f g) fun n s => x8 m ρ c h n s g)
/-- The sum of its squares over the real pairs. -/
theorem xss9 (g : Fin 8) : (W9 m ρ c (Proc.devRef .tc main_v142_2) : FVec Ideal S1x8 .f32) (ix2 (0 : Fin 1) g) = ((∑ i, A.r0f g i * A.r0f g i : ℝ) : EReal) :=
  (congrFun ((W9_arr m ρ c 13).trans (r2_xss (V8 m ρ) c)) (ix2 (0 : Fin 1) g)).trans (pair_sq (y := A.r0f g) fun n s => x8 m ρ c h n s g)

/-- The softmax weights, as the last launch reads their terms. -/
theorem sm10 (n : Fin 10000) (s : Fin 16) (g : Fin 8) :
    smOf (n := 10240) (V10 m ρ c main_v142_0) (V10 m ρ c main_v157) (V10 m ρ c main_v158) (V10 m ρ c main_arg23) (V10 m ρ c main_v159) (up n) s g = ((A.sm n s g : ℝ) : EReal) :=
  sm_real (fun n s g => (congrFun (W10_of m ρ c main_v142_0 (by decide)) _).trans (x9 m ρ c h n s g))
    (late_scl (rep9 m ρ c h) (xs9 m ρ c h) (xss9 m ρ c h)) (late_off (rep9 m ρ c h) (xs9 m ρ c h) (xss9 m ρ c h))
    (fun k g => (congrFun (W10_of m ρ c main_arg23 (by decide)) _).trans ((rep9 m ρ c h).Ww2 k g)) (late_bw (rep9 m ρ c h)) n s g

/-- The hidden layer of the position encoding, as the last launch reads its terms. -/
theorem h10 (n : Fin 10000) (s : Fin 16) (k : Fin 128) :
    hidOf (V10 m ρ c main_v85) (V10 m ρ c main_v87) (V10 m ρ c main_v89) (V10 m ρ c main_v130) (V10 m ρ c main_v133) (V10 m ρ c main_v136) (V10 m ρ c main_v160) (up n) s k
      = ((A.h n s k : ℝ) : EReal) :=
  hid_real
    (fun r s => (congrFun ((W10_of m ρ c main_v85 (by decide)).trans (W9_of m ρ c main_v85 (by decide +kernel))) _).trans (mid_pos0 (pad7 m ρ c h) r s))
    (fun r s => (congrFun ((W10_of m ρ c main_v87 (by decide)).trans (W9_of m ρ c main_v87 (by decide +kernel))) _).trans (mid_pos1 (pad7 m ρ c h) r s))
    (fun r s => (congrFun ((W10_of m ρ c main_v89 (by decide)).trans (W9_of m ρ c main_v89 (by decide +kernel))) _).trans (mid_pos2 (pad7 m ρ c h) r s))
    (fun k => (congrFun ((W10_of m ρ c main_v130 (by decide)).trans (W9_of m ρ c main_v130 (by decide +kernel))) _).trans (mid_w0 (rep7 m ρ c h) (pad7 m ρ c h) k))
    (fun k => (congrFun ((W10_of m ρ c main_v133 (by decide)).trans (W9_of m ρ c main_v133 (by decide +kernel))) _).trans (mid_w1 (rep7 m ρ c h) (pad7 m ρ c h) k))
    (fun k => (congrFun ((W10_of m ρ c main_v136 (by decide)).trans (W9_of m ρ c main_v136 (by decide +kernel))) _).trans (mid_w2 (rep7 m ρ c h) (pad7 m ρ c h) k))
    (fun k => (late_b k).trans ((congrFun (W9_of m ρ c main_v127 (by decide +kernel)) _).trans (mid_b1 (rep7 m ρ c h) (pad7 m ρ c h) k))) n s k

/-- The softmax weights and the position part after the last launch. -/
theorem w11 (n : Fin 10000) (s : Fin 16) (g : Fin 8) : (W11 m ρ c (Proc.devRef .tc main_v162_1) : FVec Ideal S10240x16x8 .f32) (ix3 (up n) s g) = ((A.sm n s g : ℝ) : EReal) :=
  (congrFun ((W11_arr m ρ c 15).trans (r3_w (V10 m ρ) c)) (ix3 (up n) s g)).trans (sm10 m ρ c h n s g)
/-- The position part of the result after the last launch. -/
theorem o11 (n : Fin 10000) (j : Fin 128) : (W11 m ρ c (Proc.devRef .tc main_v162_0) : FVec Ideal S10240x128 .f32) (ix2 (up n) j)
    = (((∑ l, (∑ s, A.sm n s (Args.grp j) * A.h n s l) * A.Wp2 l j) + (∑ s, A.sm n s (Args.grp j)) * A.bp2 j : ℝ) : EReal) := by
  refine (congrFun ((W11_arr m ρ c 14).trans (r3_o (V10 m ρ) c)) (ix2 (up n) j)).trans ?_
  have e1 : ∀ k : Fin 128, (show FVec Ideal S128x128 .f32 from V10 m ρ c main_arg17) (ix2 k j) = ((A.Wp2 k j : ℝ) : EReal) :=
    fun k => (congrFun (W10_of m ρ c main_arg17 (by decide)) _).trans ((rep9 m ρ c h).Wp2 k j)
  have e2 : (show FVec Ideal S1x128 .f32 from V10 m ρ c main_v161) (ix2 (0 : Fin 1) j) = ((A.bp2 j : ℝ) : EReal) := late_bp (rep9 m ρ c h) j
  have es := sm10 m ρ c h
  have eh := h10 m ρ c h
  simp only [EReal.coe_add, EReal.coe_mul, ← coe_sum]
  exact congrArg₂ (· + ·) (Finset.sum_congr rfl fun k _ => congrArg₂ (· * ·) (Finset.sum_congr rfl fun s _ => congrArg₂ (· * ·) (es n s _) (eh n s k)) (e1 k))
    (congrArg₂ (· * ·) (Finset.sum_congr rfl fun s _ => es n s _) e2)

/-- The kernel's result. -/
theorem ker_out (n : Fin 10000) (j : Fin 128) : (W12 m ρ c (Proc.devRef .tc main_v174) : FVec Ideal S10000x128 .f32) (ix2 n j) = ((A.out n j : ℝ) : EReal) :=
  last_out (pad11 m ρ c h)
    (fun n j => (congrFun ((W11_of m ρ c main_v73_0 (by decide +kernel)).trans ((W10_of m ρ c main_v73_0 (by decide)).trans ((W9_of m ρ c main_v73_0 (by decide +kernel)).trans (W8_of m ρ c main_v73_0 (by decide))))) _).trans (v7 m ρ c h n j)) (w11 m ρ c h) (o11 m ρ c h) n j

end Cert.KernelIdeal.Value
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Pre
public import proofs.«01_k».proof.Proof.RefValue
public import proofs.«01_k».proof.Proof.Chain
public import Idealize.ShloMosaic.Lib.Quiescent

@[expose] public section

set_option maxRecDepth 16384

noncomputable section

namespace Cert.Proof

open Idealize.ShloMosaic Idealize.ShloMosaic.TcCoe Idealize.SL.Sem

/-- The reference runs, its arguments end unchanged, and it declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with the same result. -/
theorem algebraic [Cert.Pre_finite_and_in_range.Facts] : Cert.algebraic_KernelIdeal_ReferenceIdeal_pre_finite_and_in_range := by
  intro m g m' g' hpre hagree
  refine ⟨fun c => Cert.KernelIdeal.Gen.W12 m g c (Proc.devRef .tc Cert.KernelIdeal.main_v174), Cert.KernelIdeal.Value.run m g, ?_⟩
  refine (θ_run Cert.ReferenceIdeal.defs _ _).mono (fun r hr c => ⟨(hr c).1.trans ?_, (hr c).2⟩)
    (Cert.ReferenceIdeal.Value.run (F := Ideal) m' g')
  have hk := Cert.Model.rep_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (hpre c)
  have hv : Cert.Model.Rep (Cert.Model.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) := by
    obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]
    exact hk
  refine funext fun (i : Cert.KernelIdeal.S10000x128.Idx) => ?_
  idx_vars i
  exact (Cert.ReferenceIdeal.Value.ref_out (V := StableHlo.launchContents m' c) hv i0 i1).trans (Cert.KernelIdeal.Value.ker_out m g c hk i0 i1).symm

/-- The side conditions that the precondition states. -/
theorem pre_facts : Cert.Pre_finite_and_in_range.Facts :=
  ⟨by decide, by decide, by decide, by decide, by decide, by decide, by decide, by decide, by decide, by decide, by decide, by decide, by decide, by decide, by decide, by decide, by decide, by decide, by decide⟩

/-- Everything that is claimed. -/
theorem claim : Cert.Claim :=
  ⟨Cert.Kernel.Gen.facts, Cert.KernelIdeal.Gen.facts, Cert.ReferenceIdeal.Gen.facts, pre_facts,
    fun m g _ => Cert.Kernel.Gen.frame m g, fun m g _ => Cert.KernelIdeal.Gen.frame m g, fun m g _ => Cert.KernelIdeal.Gen.frame m g,
    frame_r, fun m g _ => frame_r m g trivial, trivial,
    @algebraic pre_facts⟩

end Cert.Proof

end
